-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownReferenceIdeal (m : (ℓ : Loc Cert.WdownReferenceIdeal.nD Cert.WdownReferenceIdeal.τ Cert.WdownReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ r.2.sem = fun _ => 0)

def quiescent_WdownReferenceIdeal [hWdownReferenceIdeal : Cert.WdownReferenceIdeal.Facts] : Prop :=
  ∀ (m : (ℓ : Loc Cert.WdownReferenceIdeal.nD Cert.WdownReferenceIdeal.τ Cert.WdownReferenceIdeal.sig) → Buf (Elt Ideal) ℓ) (g : Dev Cert.WdownReferenceIdeal.nD → PrngReg), Pre_WdownReferenceIdeal m →
    θ_run (Cert.WdownReferenceIdeal.defs (F := Ideal)) (onTc (τ := Cert.WdownReferenceIdeal.τ) (Cert.WdownReferenceIdeal.main (F := Ideal))) ⟨m, fun _ => 0, g⟩ (fun r => (∀ c : Dev Cert.WdownReferenceIdeal.nD,
      r.2.mem ((c.tc : Thread Cert.WdownReferenceIdeal.nD Cert.WdownReferenceIdeal.τ).loc Cert.WdownReferenceIdeal.main_arg0) = m ((c.tc : Thread Cert.WdownReferenceIdeal.nD Cert.WdownReferenceIdeal.τ).loc Cert.WdownReferenceIdeal.main_arg0)
      ∧ r.2.mem ((c.tc : Thread Cert.WdownReferenceIdeal.nD Cert.WdownReferenceIdeal.τ).loc Cert.WdownReferenceIdeal.main_arg1) = m ((c.tc : Thread Cert.WdownReferenceIdeal.nD Cert.WdownReferenceIdeal.τ).loc Cert.WdownReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Wdown_WdownIdeal : Prop :=
  True

def algebraic_WdownIdeal_WdownReferenceIdeal [hWdownIdeal : Cert.WdownIdeal.Facts] [hWdownReferenceIdeal : Cert.WdownReferenceIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownReferenceIdeal.nD Cert.WdownReferenceIdeal.τ Cert.WdownReferenceIdeal.sig) → Buf (Elt Ideal) ℓ) (g' : Dev Cert.WdownReferenceIdeal.nD → PrngReg), Pre_WdownIdeal m →
    (∀ c : Dev Cert.WdownIdeal.nD,
      m' ((c.tc : Thread Cert.WdownReferenceIdeal.nD Cert.WdownReferenceIdeal.τ).loc Cert.WdownReferenceIdeal.main_arg0) = m ((c.tc : Thread Cert.WdownIdeal.nD Cert.WdownIdeal.τ).loc Cert.WdownIdeal.main_arg0)
      ∧ m' ((c.tc : Thread Cert.WdownReferenceIdeal.nD Cert.WdownReferenceIdeal.τ).loc Cert.WdownReferenceIdeal.main_arg1) = m ((c.tc : Thread Cert.WdownIdeal.nD Cert.WdownIdeal.τ).loc Cert.WdownIdeal.main_arg1)) →
    ∃ (v0 : (c : Dev Cert.WdownIdeal.nD) → Buf (Elt Ideal) ((c.tc : Thread Cert.WdownIdeal.nD Cert.WdownIdeal.τ).loc Cert.WdownIdeal.main_v0)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v0) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ θ_run (Cert.WdownReferenceIdeal.defs (F := Ideal)) (onTc (τ := Cert.WdownReferenceIdeal.τ) (Cert.WdownReferenceIdeal.main (F := Ideal))) ⟨m', fun _ => 0, g'⟩ (fun r => ∀ c : Dev Cert.WdownReferenceIdeal.nD,
          r.2.mem ((c.tc : Thread Cert.WdownReferenceIdeal.nD Cert.WdownReferenceIdeal.τ).loc Cert.WdownReferenceIdeal.main_v0) = v0 c
          ∧ r.2.mem ((c.tc : Thread Cert.WdownReferenceIdeal.nD Cert.WdownReferenceIdeal.τ).loc Cert.WdownReferenceIdeal.main_arg0) = m' ((c.tc : Thread Cert.WdownReferenceIdeal.nD Cert.WdownReferenceIdeal.τ).loc Cert.WdownReferenceIdeal.main_arg0)
          ∧ r.2.mem ((c.tc : Thread Cert.WdownReferenceIdeal.nD Cert.WdownReferenceIdeal.τ).loc Cert.WdownReferenceIdeal.main_arg1) = m' ((c.tc : Thread Cert.WdownReferenceIdeal.nD Cert.WdownReferenceIdeal.τ).loc Cert.WdownReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0_0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def Claim : Prop :=
  ∃ (hKernel : Cert.Kernel.Facts) (hKernelIdeal : Cert.KernelIdeal.Facts) (hReferenceIdeal : Cert.ReferenceIdeal.Facts) (hWdown : Cert.Wdown.Facts) (hWdownIdeal : Cert.WdownIdeal.Facts) (hWdownReferenceIdeal : Cert.WdownReferenceIdeal.Facts) (hDown : Cert.Down.Facts) (hDownIdeal : Cert.DownIdeal.Facts) (hDownReferenceIdeal : Cert.DownReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Wdown (hWdown := hWdown)
    ∧ quiescent_WdownIdeal (hWdownIdeal := hWdownIdeal)
    ∧ quiescent_WdownReferenceIdeal (hWdownReferenceIdeal := hWdownReferenceIdeal)
    ∧ quiescent_Down (hDown := hDown)
    ∧ quiescent_DownIdeal (hDownIdeal := hDownIdeal)
    ∧ quiescent_DownReferenceIdeal (hDownReferenceIdeal := hDownReferenceIdeal)
    ∧ preserves_Kernel_KernelIdeal
    ∧ algebraic_KernelIdeal_ReferenceIdeal (hKernelIdeal := hKernelIdeal) (hReferenceIdeal := hReferenceIdeal)
    ∧ preserves_Wdown_WdownIdeal
    ∧ algebraic_WdownIdeal_WdownReferenceIdeal (hWdownIdeal := hWdownIdeal) (hWdownReferenceIdeal := hWdownReferenceIdeal)
    ∧ preserves_Down_DownIdeal
    ∧ algebraic_DownIdeal_DownReferenceIdeal (hDownIdeal := hDownIdeal) (hDownReferenceIdeal := hDownReferenceIdeal)
-- ==== Kernel.lean ====
abbrev S12288x2560 : Shape := ⟨2, ![12288, 2560]⟩
abbrev S2560x6912 : Shape := ⟨2, ![2560, 6912]⟩
abbrev S20x54 : Shape := ⟨2, ![20, 54]⟩
abbrev S12288x6912 : Shape := ⟨2, ![12288, 6912]⟩
abbrev S12x1024x6912 : Shape := ⟨3, ![12, 1024, 6912]⟩
abbrev S12x54x1024 : Shape := ⟨3, ![12, 54, 1024]⟩
abbrev S12x6912x1024 : Shape := ⟨3, ![12, 6912, 1024]⟩
abbrev S12x8x6912 : Shape := ⟨3, ![12, 8, 6912]⟩
abbrev S1024x2560 : Shape := ⟨2, ![1024, 2560]⟩
abbrev S2560x256 : Shape := ⟨2, ![2560, 256]⟩
abbrev S1024x256 : Shape := ⟨2, ![1024, 256]⟩
abbrev S1x1024x256 : Shape := ⟨3, ![1, 1024, 256]⟩
abbrev S1x54x1024 : Shape := ⟨3, ![1, 54, 1024]⟩
abbrev S1x256x1024 : Shape := ⟨3, ![1, 256, 1024]⟩
abbrev S1x8x256 : Shape := ⟨3, ![1, 8, 256]⟩
abbrev S128x256 : Shape := ⟨2, ![128, 256]⟩
abbrev S8x54x128 : Shape := ⟨3, ![8, 54, 128]⟩
abbrev S1x1 : Shape := ⟨2, ![1, 1]⟩
abbrev S128x128 : Shape := ⟨2, ![128, 128]⟩
abbrev S128x2560 : Shape := ⟨2, ![128, 2560]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩
abbrev S1x128x128 : Shape := ⟨3, ![1, 128, 128]⟩
abbrev S2x128 : Shape := ⟨2, ![2, 128]⟩
abbrev S1x2x128 : Shape := ⟨3, ![1, 2, 128]⟩
abbrev S1x54x128 : Shape := ⟨3, ![1, 54, 128]⟩
abbrev S54x128 : Shape := ⟨2, ![54, 128]⟩

abbrev nBuf : Space → Nat
  | .hbm => 10
  | .vmem => 20
  | .smem => 2
  | _ => 0

abbrev bufTy : (tb : Table) → Fin (tcTables nBuf tb) → BufTy
  | .hbm, ⟨0, _⟩ => ⟨S12288x2560, .bf16⟩
  | .hbm, ⟨1, _⟩ => ⟨S2560x6912, .fp8e4m3⟩
  | .hbm, ⟨2, _⟩ => ⟨S20x54, .f32⟩
  | .hbm, ⟨3, _⟩ => ⟨S2560x6912, .fp8e4m3⟩
  | .hbm, ⟨4, _⟩ => ⟨S20x54, .f32⟩
  | .hbm, ⟨5, _⟩ => ⟨S12288x6912, .bf16⟩
  | .hbm, ⟨6, _⟩ => ⟨S12x1024x6912, .fp8e4m3⟩
  | .hbm, ⟨7, _⟩ => ⟨S12x54x1024, .f32⟩
  | .hbm, ⟨8, _⟩ => ⟨S12x6912x1024, .fp8e4m3⟩
  | .hbm, ⟨9, _⟩ => ⟨S12x8x6912, .f32⟩
  | .local _ .vmem, ⟨0, _⟩ => ⟨S1024x2560, .bf16⟩
  | .local _ .vmem, ⟨1, _⟩ => ⟨S1024x2560, .bf16⟩
  | .local _ .vmem, ⟨2, _⟩ => ⟨S2560x256, .fp8e4m3⟩
  | .local _ .vmem, ⟨3, _⟩ => ⟨S2560x256, .fp8e4m3⟩
  | .local _ .vmem, ⟨4, _⟩ => ⟨S2560x256, .fp8e4m3⟩
  | .local _ .vmem, ⟨5, _⟩ => ⟨S2560x256, .fp8e4m3⟩
  | .local _ .vmem, ⟨6, _⟩ => ⟨S1024x256, .bf16⟩
  | .local _ .vmem, ⟨7, _⟩ => ⟨S1024x256, .bf16⟩
  | .local _ .vmem, ⟨8, _⟩ => ⟨S1x1024x256, .fp8e4m3⟩
  | .local _ .vmem, ⟨9, _⟩ => ⟨S1x1024x256, .fp8e4m3⟩
  | .local _ .vmem, ⟨10, _⟩ => ⟨S1x54x1024, .f32⟩
  | .local _ .vmem, ⟨11, _⟩ => ⟨S1x54x1024, .f32⟩
  | .local _ .vmem, ⟨12, _⟩ => ⟨S1x256x1024, .fp8e4m3⟩
  | .local _ .vmem, ⟨13, _⟩ => ⟨S1x256x1024, .fp8e4m3⟩
  | .local _ .vmem, ⟨14, _⟩ => ⟨S1x8x256, .f32⟩
  | .local _ .vmem, ⟨15, _⟩ => ⟨S1x8x256, .f32⟩
  | .local _ .vmem, ⟨16, _⟩ => ⟨S2560x256, .bf16⟩
  | .local _ .vmem, ⟨17, _⟩ => ⟨S2560x256, .bf16⟩
  | .local _ .vmem, ⟨18, _⟩ => ⟨S128x256, .f32⟩
  | .local _ .vmem, ⟨19, _⟩ => ⟨S8x54x128, .f32⟩
  | .local _ .smem, ⟨0, _⟩ => ⟨S20x54, .f32⟩
  | .local _ .smem, ⟨1, _⟩ => ⟨S20x54, .f32⟩
  | _, _ => ⟨S12288x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![12, 27], ![false, false]⟩

def k0_off1 (i : grid0.Coords) (c0_i32 : BitVec 32) : Fin 2 → Nat :=
  let c0 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg1 : BitVec 32 := BitVec.ofNat 32 (i 1).val
  let c2_i32 : BitVec 32 := 2#32
  let v0 : BitVec 32 := Scalar.muli arg1 c2_i32
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let arg1 : BitVec 32 := BitVec.ofNat 32 (i 1).val
  let c2_i32 : BitVec 32 := 2#32
  let v0 : BitVec 32 := Scalar.muli arg1 c2_i32
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let arg1 : BitVec 32 := BitVec.ofNat 32 (i 1).val
  let c2_i32 : BitVec 32 := 2#32
  let v0 : BitVec 32 := Scalar.muli arg1 c2_i32
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let arg1 : BitVec 32 := BitVec.ofNat 32 (i 1).val
  let c2_i32 : BitVec 32 := 2#32
  let v0 : BitVec 32 := Scalar.muli arg1 c2_i32
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let arg1 : BitVec 32 := BitVec.ofNat 32 (i 1).val
  let c2_i32 : BitVec 32 := 2#32
  let v0 : BitVec 32 := Scalar.muli arg1 c2_i32
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let arg1 : BitVec 32 := BitVec.ofNat 32 (i 1).val
  let c2_i32 : BitVec 32 := 2#32
  let v0 : BitVec 32 := Scalar.muli arg1 c2_i32
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let arg1 : BitVec 32 := BitVec.ofNat 32 (i 1).val
  let c2_i32 : BitVec 32 := 2#32
  let v0 : BitVec 32 := Scalar.muli arg1 c2_i32
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let arg1 : BitVec 32 := BitVec.ofNat 32 (i 1).val
  let c2_i32 : BitVec 32 := 2#32
  let v0 : BitVec 32 := Scalar.muli arg1 c2_i32
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let arg1 : BitVec 32 := BitVec.ofNat 32 (i 1).val
  let c2_i32 : BitVec 32 := 2#32
  let v0 : BitVec 32 := Scalar.muli arg1 c2_i32
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let arg1 : BitVec 32 := BitVec.ofNat 32 (i 1).val
  let c2_i32 : BitVec 32 := 2#32
  let v0 : BitVec 32 := Scalar.muli arg1 c2_i32
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let arg1 : BitVec 32 := BitVec.ofNat 32 (i 1).val
  let c2_i32 : BitVec 32 := 2#32
  let v0 : BitVec 32 := Scalar.muli arg1 c2_i32
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let arg1 : BitVec 32 := BitVec.ofNat 32 (i 1).val
  let c2_i32 : BitVec 32 := 2#32
  let v0 : BitVec 32 := Scalar.muli arg1 c2_i32
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let arg1 : BitVec 32 := BitVec.ofNat 32 (i 1).val
  let c2_i32 : BitVec 32 := 2#32
  let v0 : BitVec 32 := Scalar.muli arg1 c2_i32
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let arg1 : BitVec 32 := BitVec.ofNat 32 (i 1).val
  let c2_i32 : BitVec 32 := 2#32
  let v0 : BitVec 32 := Scalar.muli arg1 c2_i32
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let arg1 : BitVec 32 := BitVec.ofNat 32 (i 1).val
  let c2_i32 : BitVec 32 := 2#32
  let v0 : BitVec 32 := Scalar.muli arg1 c2_i32
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let arg1 : BitVec 32 := BitVec.ofNat 32 (i 1).val
  let c2_i32 : BitVec 32 := 2#32
  let v0 : BitVec 32 := Scalar.muli arg1 c2_i32
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let arg1 : BitVec 32 := BitVec.ofNat 32 (i 1).val
  let c2_i32 : BitVec 32 := 2#32
  let v0 : BitVec 32 := Scalar.muli arg1 c2_i32
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let arg1 : BitVec 32 := BitVec.ofNat 32 (i 1).val
  let c2_i32 : BitVec 32 := 2#32
  let v0 : BitVec 32 := Scalar.muli arg1 c2_i32
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let arg1 : BitVec 32 := BitVec.ofNat 32 (i 1).val
  let c2_i32 : BitVec 32 := 2#32
  let v0 : BitVec 32 := Scalar.muli arg1 c2_i32
  let v419 : BitVec 32 := Scalar.addi v0 c0_i32_189
  let v420 : Index := Scalar.indexCast v419
  ![19, v420.toNat]
def k0_off21 (i : grid0.Coords) : Fin 3 → Nat :=
  let c0_538 : Index := 0#32
  let arg1 : BitVec 32 := BitVec.ofNat 32 (i 1).val
  let c2_i32_537 : BitVec 32 := 2#32
  let v1169 : BitVec 32 := Scalar.muli arg1 c2_i32_537
  let v1170 : Index := Scalar.indexCast v1169
  let c0_539 : Index := 0#32
  ![0, v1170.toNat, 0]
def k0_off22 (i : grid0.Coords) : Fin 3 → Nat :=
  let c1_666 : Index := 1#32
  let arg1 : BitVec 32 := BitVec.ofNat 32 (i 1).val
  let c2_i32_665 : BitVec 32 := 2#32
  let v1501 : BitVec 32 := Scalar.muli arg1 c2_i32_665
  let v1502 : Index := Scalar.indexCast v1501
  let c0_667 : Index := 0#32
  ![1, v1502.toNat, 0]
def k0_off23 (i : grid0.Coords) : Fin 3 → Nat :=
  let c2_794 : Index := 2#32
  let arg1 : BitVec 32 := BitVec.ofNat 32 (i 1).val
  let c2_i32_793 : BitVec 32 := 2#32
  let v1833 : BitVec 32 := Scalar.muli arg1 c2_i32_793
  let v1834 : Index := Scalar.indexCast v1833
  let c0_795 : Index := 0#32
  ![2, v1834.toNat, 0]
def k0_off24 (i : grid0.Coords) : Fin 3 → Nat :=
  let c3_922 : Index := 3#32
  let arg1 : BitVec 32 := BitVec.ofNat 32 (i 1).val
  let c2_i32_921 : BitVec 32 := 2#32
  let v2165 : BitVec 32 := Scalar.muli arg1 c2_i32_921
  let v2166 : Index := Scalar.indexCast v2165
  let c0_923 : Index := 0#32
  ![3, v2166.toNat, 0]
def k0_off25 (i : grid0.Coords) : Fin 3 → Nat :=
  let c4_1050 : Index := 4#32
  let arg1 : BitVec 32 := BitVec.ofNat 32 (i 1).val
  let c2_i32_1049 : BitVec 32 := 2#32
  let v2497 : BitVec 32 := Scalar.muli arg1 c2_i32_1049
  let v2498 : Index := Scalar.indexCast v2497
  let c0_1051 : Index := 0#32
  ![4, v2498.toNat, 0]
def k0_off26 (i : grid0.Coords) : Fin 3 → Nat :=
  let c5_1178 : Index := 5#32
  let arg1 : BitVec 32 := BitVec.ofNat 32 (i 1).val
  let c2_i32_1177 : BitVec 32 := 2#32
  let v2829 : BitVec 32 := Scalar.muli arg1 c2_i32_1177
  let v2830 : Index := Scalar.indexCast v2829
  let c0_1179 : Index := 0#32
  ![5, v2830.toNat, 0]
def k0_off27 (i : grid0.Coords) : Fin 3 → Nat :=
  let c6_1306 : Index := 6#32
  let arg1 : BitVec 32 := BitVec.ofNat 32 (i 1).val
  let c2_i32_1305 : BitVec 32 := 2#32
  let v3161 : BitVec 32 := Scalar.muli arg1 c2_i32_1305
  let v3162 : Index := Scalar.indexCast v3161
  let c0_1307 : Index := 0#32
  ![6, v3162.toNat, 0]
def k0_off28 (i : grid0.Coords) : Fin 3 → Nat :=
  let c7_1434 : Index := 7#32
  let arg1 : BitVec 32 := BitVec.ofNat 32 (i 1).val
  let c2_i32_1433 : BitVec 32 := 2#32
  let v3493 : BitVec 32 := Scalar.muli arg1 c2_i32_1433
  let v3494 : Index := Scalar.indexCast v3493
  let c0_1435 : Index := 0#32
  ![7, v3494.toNat, 0]
def k0_cond1 (i : grid0.Coords) : BitVec 1 :=
  let arg1 : BitVec 32 := BitVec.ofNat 32 (i 1).val
  let c26_i32 : BitVec 32 := 26#32
  let v3538 : BitVec 1 := Scalar.cmpi .eq arg1 c26_i32
  let v3539 : BitVec 32 := Scalar.extui v3538
  let c0_i32_1454 : BitVec 32 := 0#32
  let v3540 : BitVec 1 := Scalar.cmpi .ne v3539 c0_i32_1454
  v3540

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S20x54 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S20x54 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2560x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2560x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x54x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S12288x2560 : Shape := ⟨2, ![12288, 2560]⟩
abbrev S2560x6912 : Shape := ⟨2, ![2560, 6912]⟩
abbrev S20x54 : Shape := ⟨2, ![20, 54]⟩
abbrev S12288x6912 : Shape := ⟨2, ![12288, 6912]⟩
abbrev S12x1024x6912 : Shape := ⟨3, ![12, 1024, 6912]⟩
abbrev S12x54x1024 : Shape := ⟨3, ![12, 54, 1024]⟩
abbrev S12x6912x1024 : Shape := ⟨3, ![12, 6912, 1024]⟩
abbrev S12x8x6912 : Shape := ⟨3, ![12, 8, 6912]⟩
abbrev S20x128x54x128 : Shape := ⟨4, ![20, 128, 54, 128]⟩
abbrev S20x1x54x1 : Shape := ⟨4, ![20, 1, 54, 1]⟩
abbrev S12x1024x54x128 : Shape := ⟨4, ![12, 1024, 54, 128]⟩
abbrev S12x1024x54 : Shape := ⟨3, ![12, 1024, 54]⟩
abbrev S12x1024x54x247 : Shape := ⟨4, ![12, 1024, 54, 247]⟩
abbrev S12x1024x54x1 : Shape := ⟨4, ![12, 1024, 54, 1]⟩
abbrev S12x8x128x6912 : Shape := ⟨4, ![12, 8, 128, 6912]⟩
abbrev S12x8x6912x247 : Shape := ⟨4, ![12, 8, 6912, 247]⟩
abbrev S12x8x6912x1 : Shape := ⟨4, ![12, 8, 6912, 1]⟩
abbrev S12x8x1x6912 : Shape := ⟨4, ![12, 8, 1, 6912]⟩

abbrev nBuf : Space → Nat
  | .hbm => 10
  | .vmem => 10
  | .smem => 0
  | _ => 0

abbrev bufTy : (tb : Table) → Fin (tcTables nBuf tb) → BufTy
  | .hbm, ⟨0, _⟩ => ⟨S12288x2560, .bf16⟩
  | .hbm, ⟨1, _⟩ => ⟨S2560x6912, .fp8e4m3⟩
  | .hbm, ⟨2, _⟩ => ⟨S20x54, .f32⟩
  | .hbm, ⟨3, _⟩ => ⟨S2560x6912, .fp8e4m3⟩
  | .hbm, ⟨4, _⟩ => ⟨S20x54, .f32⟩
  | .hbm, ⟨5, _⟩ => ⟨S12288x6912, .bf16⟩
  | .hbm, ⟨6, _⟩ => ⟨S12x1024x6912, .fp8e4m3⟩
  | .hbm, ⟨7, _⟩ => ⟨S12x54x1024, .f32⟩
  | .hbm, ⟨8, _⟩ => ⟨S12x6912x1024, .fp8e4m3⟩
  | .hbm, ⟨9, _⟩ => ⟨S12x8x6912, .f32⟩
  | .local _ .vmem, ⟨0, _⟩ => ⟨S12288x2560, .bf16⟩
  | .local _ .vmem, ⟨1, _⟩ => ⟨S2560x6912, .fp8e4m3⟩
  | .local _ .vmem, ⟨2, _⟩ => ⟨S20x54, .f32⟩
  | .local _ .vmem, ⟨3, _⟩ => ⟨S2560x6912, .fp8e4m3⟩
  | .local _ .vmem, ⟨4, _⟩ => ⟨S20x54, .f32⟩
  | .local _ .vmem, ⟨5, _⟩ => ⟨S12288x6912, .bf16⟩
  | .local _ .vmem, ⟨6, _⟩ => ⟨S12x1024x6912, .fp8e4m3⟩
  | .local _ .vmem, ⟨7, _⟩ => ⟨S12x54x1024, .f32⟩
  | .local _ .vmem, ⟨8, _⟩ => ⟨S12x6912x1024, .fp8e4m3⟩
  | .local _ .vmem, ⟨9, _⟩ => ⟨S12x8x6912, .f32⟩
  | _, _ => ⟨S12288x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12288x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x54 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x6912 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x54 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x6912 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x1024x6912 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x54x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x6912x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x8x6912 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Wdown.lean ====
abbrev S6912x2560 : Shape := ⟨2, ![6912, 2560]⟩
abbrev S54x20 : Shape := ⟨2, ![54, 20]⟩
abbrev S128x2560 : Shape := ⟨2, ![128, 2560]⟩
abbrev S1x1 : Shape := ⟨2, ![1, 1]⟩
abbrev S128x128 : Shape := ⟨2, ![128, 128]⟩

abbrev nBuf : Space → Nat
  | .hbm => 3
  | .vmem => 4
  | .smem => 1
  | _ => 0

abbrev bufTy : (tb : Table) → Fin (tcTables nBuf tb) → BufTy
  | .hbm, ⟨0, _⟩ => ⟨S6912x2560, .fp8e4m3⟩
  | .hbm, ⟨1, _⟩ => ⟨S54x20, .f32⟩
  | .hbm, ⟨2, _⟩ => ⟨S6912x2560, .bf16⟩
  | .local _ .vmem, ⟨0, _⟩ => ⟨S128x2560, .fp8e4m3⟩
  | .local _ .vmem, ⟨1, _⟩ => ⟨S128x2560, .fp8e4m3⟩
  | .local _ .vmem, ⟨2, _⟩ => ⟨S128x2560, .bf16⟩
  | .local _ .vmem, ⟨3, _⟩ => ⟨S128x2560, .bf16⟩
  | .local _ .smem, ⟨0, _⟩ => ⟨S54x20, .f32⟩
  | _, _ => ⟨S6912x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![54], ![false]⟩

def k0_off1 (i : grid0.Coords) : Fin 2 → Nat :=
  let arg0 : BitVec 32 := BitVec.ofNat 32 (i 0).val
  let c0_i32 : BitVec 32 := 0#32
  let v0 : BitVec 32 := Scalar.addi arg0 c0_i32
  let v1 : Index := Scalar.indexCast v0
  let c0 : Index := 0#32
  ![v1.toNat, 0]
def k0_off2 (i : grid0.Coords) : Fin 2 → Nat :=
  let arg0 : BitVec 32 := BitVec.ofNat 32 (i 0).val
  let c0_i32_4 : BitVec 32 := 0#32
  let v9 : BitVec 32 := Scalar.addi arg0 c0_i32_4
  let v10 : Index := Scalar.indexCast v9
  let c1 : Index := 1#32
  ![v10.toNat, 1]
def k0_off3 (i : grid0.Coords) : Fin 2 → Nat :=
  let arg0 : BitVec 32 := BitVec.ofNat 32 (i 0).val
  let c0_i32_8 : BitVec 32 := 0#32
  let v18 : BitVec 32 := Scalar.addi arg0 c0_i32_8
  let v19 : Index := Scalar.indexCast v18
  let c2 : Index := 2#32
  ![v19.toNat, 2]
def k0_off4 (i : grid0.Coords) : Fin 2 → Nat :=
  let arg0 : BitVec 32 := BitVec.ofNat 32 (i 0).val
  let c0_i32_12 : BitVec 32 := 0#32
  let v27 : BitVec 32 := Scalar.addi arg0 c0_i32_12
  let v28 : Index := Scalar.indexCast v27
  let c3 : Index := 3#32
  ![v28.toNat, 3]
def k0_off5 (i : grid0.Coords) : Fin 2 → Nat :=
  let arg0 : BitVec 32 := BitVec.ofNat 32 (i 0).val
  let c0_i32_16 : BitVec 32 := 0#32
  let v36 : BitVec 32 := Scalar.addi arg0 c0_i32_16
  let v37 : Index := Scalar.indexCast v36
  let c4 : Index := 4#32
  ![v37.toNat, 4]
def k0_off6 (i : grid0.Coords) : Fin 2 → Nat :=
  let arg0 : BitVec 32 := BitVec.ofNat 32 (i 0).val
  let c0_i32_20 : BitVec 32 := 0#32
  let v45 : BitVec 32 := Scalar.addi arg0 c0_i32_20
  let v46 : Index := Scalar.indexCast v45
  let c5 : Index := 5#32
  ![v46.toNat, 5]
def k0_off7 (i : grid0.Coords) : Fin 2 → Nat :=
  let arg0 : BitVec 32 := BitVec.ofNat 32 (i 0).val
  let c0_i32_24 : BitVec 32 := 0#32
  let v54 : BitVec 32 := Scalar.addi arg0 c0_i32_24
  let v55 : Index := Scalar.indexCast v54
  let c6 : Index := 6#32
  ![v55.toNat, 6]
def k0_off8 (i : grid0.Coords) : Fin 2 → Nat :=
  let arg0 : BitVec 32 := BitVec.ofNat 32 (i 0).val
  let c0_i32_28 : BitVec 32 := 0#32
  let v63 : BitVec 32 := Scalar.addi arg0 c0_i32_28
  let v64 : Index := Scalar.indexCast v63
  let c7 : Index := 7#32
  ![v64.toNat, 7]
def k0_off9 (i : grid0.Coords) : Fin 2 → Nat :=
  let arg0 : BitVec 32 := BitVec.ofNat 32 (i 0).val
  let c0_i32_32 : BitVec 32 := 0#32
  let v72 : BitVec 32 := Scalar.addi arg0 c0_i32_32
  let v73 : Index := Scalar.indexCast v72
  let c8 : Index := 8#32
  ![v73.toNat, 8]
def k0_off10 (i : grid0.Coords) : Fin 2 → Nat :=
  let arg0 : BitVec 32 := BitVec.ofNat 32 (i 0).val
  let c0_i32_36 : BitVec 32 := 0#32
  let v81 : BitVec 32 := Scalar.addi arg0 c0_i32_36
  let v82 : Index := Scalar.indexCast v81
  let c9 : Index := 9#32
  ![v82.toNat, 9]
def k0_off11 (i : grid0.Coords) : Fin 2 → Nat :=
  let arg0 : BitVec 32 := BitVec.ofNat 32 (i 0).val
  let c0_i32_40 : BitVec 32 := 0#32
  let v90 : BitVec 32 := Scalar.addi arg0 c0_i32_40
  let v91 : Index := Scalar.indexCast v90
  let c10 : Index := 10#32
  ![v91.toNat, 10]
def k0_off12 (i : grid0.Coords) : Fin 2 → Nat :=
  let arg0 : BitVec 32 := BitVec.ofNat 32 (i 0).val
  let c0_i32_44 : BitVec 32 := 0#32
  let v99 : BitVec 32 := Scalar.addi arg0 c0_i32_44
  let v100 : Index := Scalar.indexCast v99
  let c11 : Index := 11#32
  ![v100.toNat, 11]
def k0_off13 (i : grid0.Coords) : Fin 2 → Nat :=
  let arg0 : BitVec 32 := BitVec.ofNat 32 (i 0).val
  let c0_i32_48 : BitVec 32 := 0#32
  let v108 : BitVec 32 := Scalar.addi arg0 c0_i32_48
  let v109 : Index := Scalar.indexCast v108
  let c12 : Index := 12#32
  ![v109.toNat, 12]
def k0_off14 (i : grid0.Coords) : Fin 2 → Nat :=
  let arg0 : BitVec 32 := BitVec.ofNat 32 (i 0).val
  let c0_i32_52 : BitVec 32 := 0#32
  let v117 : BitVec 32 := Scalar.addi arg0 c0_i32_52
  let v118 : Index := Scalar.indexCast v117
  let c13 : Index := 13#32
  ![v118.toNat, 13]
def k0_off15 (i : grid0.Coords) : Fin 2 → Nat :=
  let arg0 : BitVec 32 := BitVec.ofNat 32 (i 0).val
  let c0_i32_56 : BitVec 32 := 0#32
  let v126 : BitVec 32 := Scalar.addi arg0 c0_i32_56
  let v127 : Index := Scalar.indexCast v126
  let c14 : Index := 14#32
  ![v127.toNat, 14]
def k0_off16 (i : grid0.Coords) : Fin 2 → Nat :=
  let arg0 : BitVec 32 := BitVec.ofNat 32 (i 0).val
  let c0_i32_60 : BitVec 32 := 0#32
  let v135 : BitVec 32 := Scalar.addi arg0 c0_i32_60
  let v136 : Index := Scalar.indexCast v135
  let c15 : Index := 15#32
  ![v136.toNat, 15]
def k0_off17 (i : grid0.Coords) : Fin 2 → Nat :=
  let arg0 : BitVec 32 := BitVec.ofNat 32 (i 0).val
  let c0_i32_64 : BitVec 32 := 0#32
  let v144 : BitVec 32 := Scalar.addi arg0 c0_i32_64
  let v145 : Index := Scalar.indexCast v144
  let c16 : Index := 16#32
  ![v145.toNat, 16]
def k0_off18 (i : grid0.Coords) : Fin 2 → Nat :=
  let arg0 : BitVec 32 := BitVec.ofNat 32 (i 0).val
  let c0_i32_68 : BitVec 32 := 0#32
  let v153 : BitVec 32 := Scalar.addi arg0 c0_i32_68
  let v154 : Index := Scalar.indexCast v153
  let c17 : Index := 17#32
  ![v154.toNat, 17]
def k0_off19 (i : grid0.Coords) : Fin 2 → Nat :=
  let arg0 : BitVec 32 := BitVec.ofNat 32 (i 0).val
  let c0_i32_72 : BitVec 32 := 0#32
  let v162 : BitVec 32 := Scalar.addi arg0 c0_i32_72
  let v163 : Index := Scalar.indexCast v162
  let c18 : Index := 18#32
  ![v163.toNat, 18]
def k0_off20 (i : grid0.Coords) : Fin 2 → Nat :=
  let arg0 : BitVec 32 := BitVec.ofNat 32 (i 0).val
  let c0_i32_76 : BitVec 32 := 0#32
  let v171 : BitVec 32 := Scalar.addi arg0 c0_i32_76
  let v172 : Index := Scalar.indexCast v171
  let c19 : Index := 19#32
  ![v172.toNat, 19]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S54x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WdownReferenceIdeal.lean ====
abbrev S6912x2560 : Shape := ⟨2, ![6912, 2560]⟩
abbrev S54x20 : Shape := ⟨2, ![54, 20]⟩
abbrev S54x128x20x128 : Shape := ⟨4, ![54, 128, 20, 128]⟩
abbrev S54x1x20x1 : Shape := ⟨4, ![54, 1, 20, 1]⟩

abbrev nBuf : Space → Nat
  | .hbm => 3
  | .vmem => 3
  | .smem => 0
  | _ => 0

abbrev bufTy : (tb : Table) → Fin (tcTables nBuf tb) → BufTy
  | .hbm, ⟨0, _⟩ => ⟨S6912x2560, .fp8e4m3⟩
  | .hbm, ⟨1, _⟩ => ⟨S54x20, .f32⟩
  | .hbm, ⟨2, _⟩ => ⟨S6912x2560, .bf16⟩
  | .local _ .vmem, ⟨0, _⟩ => ⟨S6912x2560, .fp8e4m3⟩
  | .local _ .vmem, ⟨1, _⟩ => ⟨S54x20, .f32⟩
  | .local _ .vmem, ⟨2, _⟩ => ⟨S6912x2560, .bf16⟩
  | _, _ => ⟨S6912x2560, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6912x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S54x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Down.lean ====
abbrev S12288x6912 : Shape := ⟨2, ![12288, 6912]⟩
abbrev S6912x2560 : Shape := ⟨2, ![6912, 2560]⟩
abbrev S12288x4x2560 : Shape := ⟨3, ![12288, 4, 2560]⟩
abbrev S12288x128 : Shape := ⟨2, ![12288, 128]⟩
abbrev S4x12288x128 : Shape := ⟨3, ![4, 12288, 128]⟩
abbrev S12x1024x2560 : Shape := ⟨3, ![12, 1024, 2560]⟩
abbrev S12x20x4x1024 : Shape := ⟨4, ![12, 20, 4, 1024]⟩
abbrev S128x6912 : Shape := ⟨2, ![128, 6912]⟩
abbrev S128x4x2560 : Shape := ⟨3, ![128, 4, 2560]⟩
abbrev S128x128 : Shape := ⟨2, ![128, 128]⟩
abbrev S4x128x128 : Shape := ⟨3, ![4, 128, 128]⟩
abbrev S1x128x2560 : Shape := ⟨3, ![1, 128, 2560]⟩
abbrev S1x20x4x128 : Shape := ⟨4, ![1, 20, 4, 128]⟩
abbrev S128x2560 : Shape := ⟨2, ![128, 2560]⟩
abbrev S640x128 : Shape := ⟨2, ![640, 128]⟩
abbrev S4x160x128 : Shape := ⟨3, ![4, 160, 128]⟩
abbrev S8x128 : Shape := ⟨2, ![8, 128]⟩
abbrev S6912x256 : Shape := ⟨2, ![6912, 256]⟩
abbrev S128x256 : Shape := ⟨2, ![128, 256]⟩
abbrev S1x128x256 : Shape := ⟨3, ![1, 128, 256]⟩
abbrev S8x1 : Shape := ⟨2, ![8, 1]⟩
abbrev S8x4x128 : Shape := ⟨3, ![8, 4, 128]⟩
abbrev S32x128 : Shape := ⟨2, ![32, 128]⟩
abbrev S1x8x128 : Shape := ⟨3, ![1, 8, 128]⟩
abbrev S8 : Shape := ⟨1, ![8]⟩
abbrev S1x128x128 : Shape := ⟨3, ![1, 128, 128]⟩
abbrev S20x128 : Shape := ⟨2, ![20, 128]⟩
abbrev S1x20x1x128 : Shape := ⟨4, ![1, 20, 1, 128]⟩

abbrev nBuf : Space → Nat
  | .hbm => 8
  | .vmem => 19
  | .smem => 0
  | _ => 0

abbrev bufTy : (tb : Table) → Fin (tcTables nBuf tb) → BufTy
  | .hbm, ⟨0, _⟩ => ⟨S12288x6912, .bf16⟩
  | .hbm, ⟨1, _⟩ => ⟨S6912x2560, .bf16⟩
  | .hbm, ⟨2, _⟩ => ⟨S12288x4x2560, .fp8e4m3⟩
  | .hbm, ⟨3, _⟩ => ⟨S12288x128, .f32⟩
  | .hbm, ⟨4, _⟩ => ⟨S4x12288x128, .f32⟩
  | .hbm, ⟨5, _⟩ => ⟨S12x1024x2560, .bf16⟩
  | .hbm, ⟨6, _⟩ => ⟨S12288x4x2560, .fp8e4m3⟩
  | .hbm, ⟨7, _⟩ => ⟨S12x20x4x1024, .f32⟩
  | .local _ .vmem, ⟨0, _⟩ => ⟨S128x6912, .bf16⟩
  | .local _ .vmem, ⟨1, _⟩ => ⟨S128x6912, .bf16⟩
  | .local _ .vmem, ⟨2, _⟩ => ⟨S6912x2560, .bf16⟩
  | .local _ .vmem, ⟨3, _⟩ => ⟨S128x4x2560, .fp8e4m3⟩
  | .local _ .vmem, ⟨4, _⟩ => ⟨S128x4x2560, .fp8e4m3⟩
  | .local _ .vmem, ⟨5, _⟩ => ⟨S128x128, .f32⟩
  | .local _ .vmem, ⟨6, _⟩ => ⟨S128x128, .f32⟩
  | .local _ .vmem, ⟨7, _⟩ => ⟨S4x128x128, .f32⟩
  | .local _ .vmem, ⟨8, _⟩ => ⟨S4x128x128, .f32⟩
  | .local _ .vmem, ⟨9, _⟩ => ⟨S1x128x2560, .bf16⟩
  | .local _ .vmem, ⟨10, _⟩ => ⟨S1x128x2560, .bf16⟩
  | .local _ .vmem, ⟨11, _⟩ => ⟨S128x4x2560, .fp8e4m3⟩
  | .local _ .vmem, ⟨12, _⟩ => ⟨S128x4x2560, .fp8e4m3⟩
  | .local _ .vmem, ⟨13, _⟩ => ⟨S1x20x4x128, .f32⟩
  | .local _ .vmem, ⟨14, _⟩ => ⟨S1x20x4x128, .f32⟩
  | .local _ .vmem, ⟨15, _⟩ => ⟨S128x2560, .f32⟩
  | .local _ .vmem, ⟨16, _⟩ => ⟨S640x128, .f32⟩
  | .local _ .vmem, ⟨17, _⟩ => ⟨S4x160x128, .f32⟩
  | .local _ .vmem, ⟨18, _⟩ => ⟨S4x128x128, .f32⟩
  | _, _ => ⟨S12288x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![12, 8], ![false, false]⟩

@[reducible] def k0_t1_loop : Scf.Loop 32 :=
  let c0_i32 : BitVec 32 := 0#32
  let c16_i32 : BitVec 32 := 16#32
  let v101 : BitVec 32 := Scalar.addi c0_i32 c16_i32
  let c1_i32 : BitVec 32 := 1#32
  ⟨c0_i32, v101, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  v130
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v132 : Index := Scalar.indexCast v131
  let c0_115 : Index := 0#32
  ![v132.toNat, 0]
def k0_off2 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v198 : Index := Scalar.indexCast v131
  let c0_120 : Index := 0#32
  let c0_121 : Index := 0#32
  ![v198.toNat, 0, 0]
def k0_off3 (k0_t1 : Fin k0_t1_loop.trips) : Fin 3 → Nat :=
  let c0_126 : Index := 0#32
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v206 : Index := Scalar.indexCast v131
  let c0_127 : Index := 0#32
  ![0, v206.toNat, 0]
def k0_off4 (k0_t1 : Fin k0_t1_loop.trips) : Fin 3 → Nat :=
  let c1_130 : Index := 1#32
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v214 : Index := Scalar.indexCast v131
  let c0_131 : Index := 0#32
  ![1, v214.toNat, 0]
def k0_off5 (k0_t1 : Fin k0_t1_loop.trips) : Fin 3 → Nat :=
  let c2_134 : Index := 2#32
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v222 : Index := Scalar.indexCast v131
  let c0_135 : Index := 0#32
  ![2, v222.toNat, 0]
def k0_off6 (k0_t1 : Fin k0_t1_loop.trips) : Fin 3 → Nat :=
  let c3_138 : Index := 3#32
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v230 : Index := Scalar.indexCast v131
  let c0_139 : Index := 0#32
  ![3, v230.toNat, 0]
def k0_off7 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v237 : Index := Scalar.indexCast v131
  let c0_140 : Index := 0#32
  ![v237.toNat, 0]
def k0_off8 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v319 : Index := Scalar.indexCast v131
  let c0_161 : Index := 0#32
  let c128 : Index := 128#32
  ![v319.toNat, 0, 128]
def k0_off9 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v358 : Index := Scalar.indexCast v131
  let c128_176 : Index := 128#32
  ![v358.toNat, 128]
def k0_off10 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v440 : Index := Scalar.indexCast v131
  let c0_196 : Index := 0#32
  let c256_197 : Index := 256#32
  ![v440.toNat, 0, 256]
def k0_off11 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v479 : Index := Scalar.indexCast v131
  let c256_212 : Index := 256#32
  ![v479.toNat, 256]
def k0_off12 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v561 : Index := Scalar.indexCast v131
  let c0_231 : Index := 0#32
  let c384 : Index := 384#32
  ![v561.toNat, 0, 384]
def k0_off13 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v600 : Index := Scalar.indexCast v131
  let c384_246 : Index := 384#32
  ![v600.toNat, 384]
def k0_off14 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v682 : Index := Scalar.indexCast v131
  let c0_265 : Index := 0#32
  let c512_266 : Index := 512#32
  ![v682.toNat, 0, 512]
def k0_off15 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v721 : Index := Scalar.indexCast v131
  let c512_282 : Index := 512#32
  ![v721.toNat, 512]
def k0_off16 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v803 : Index := Scalar.indexCast v131
  let c0_302 : Index := 0#32
  let c640 : Index := 640#32
  ![v803.toNat, 0, 640]
def k0_off17 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v842 : Index := Scalar.indexCast v131
  let c640_317 : Index := 640#32
  ![v842.toNat, 640]
def k0_off18 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v924 : Index := Scalar.indexCast v131
  let c0_336 : Index := 0#32
  let c768_337 : Index := 768#32
  ![v924.toNat, 0, 768]
def k0_off19 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v963 : Index := Scalar.indexCast v131
  let c768_352 : Index := 768#32
  ![v963.toNat, 768]
def k0_off20 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1045 : Index := Scalar.indexCast v131
  let c0_371 : Index := 0#32
  let c896 : Index := 896#32
  ![v1045.toNat, 0, 896]
def k0_off21 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1084 : Index := Scalar.indexCast v131
  let c896_386 : Index := 896#32
  ![v1084.toNat, 896]
def k0_off22 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1166 : Index := Scalar.indexCast v131
  let c0_405 : Index := 0#32
  let c1024_406 : Index := 1024#32
  ![v1166.toNat, 0, 1024]
def k0_off23 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1205 : Index := Scalar.indexCast v131
  let c1024_422 : Index := 1024#32
  ![v1205.toNat, 1024]
def k0_off24 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1287 : Index := Scalar.indexCast v131
  let c0_443 : Index := 0#32
  let c1152 : Index := 1152#32
  ![v1287.toNat, 0, 1152]
def k0_off25 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1326 : Index := Scalar.indexCast v131
  let c1152_458 : Index := 1152#32
  ![v1326.toNat, 1152]
def k0_off26 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1408 : Index := Scalar.indexCast v131
  let c0_477 : Index := 0#32
  let c1280_478 : Index := 1280#32
  ![v1408.toNat, 0, 1280]
def k0_off27 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1447 : Index := Scalar.indexCast v131
  let c1280_493 : Index := 1280#32
  ![v1447.toNat, 1280]
def k0_off28 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1529 : Index := Scalar.indexCast v131
  let c0_512 : Index := 0#32
  let c1408 : Index := 1408#32
  ![v1529.toNat, 0, 1408]
def k0_off29 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1568 : Index := Scalar.indexCast v131
  let c1408_527 : Index := 1408#32
  ![v1568.toNat, 1408]
def k0_off30 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1650 : Index := Scalar.indexCast v131
  let c0_546 : Index := 0#32
  let c1536_547 : Index := 1536#32
  ![v1650.toNat, 0, 1536]
def k0_off31 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1689 : Index := Scalar.indexCast v131
  let c1536_563 : Index := 1536#32
  ![v1689.toNat, 1536]
def k0_off32 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1771 : Index := Scalar.indexCast v131
  let c0_583 : Index := 0#32
  let c1664 : Index := 1664#32
  ![v1771.toNat, 0, 1664]
def k0_off33 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1810 : Index := Scalar.indexCast v131
  let c1664_598 : Index := 1664#32
  ![v1810.toNat, 1664]
def k0_off34 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1892 : Index := Scalar.indexCast v131
  let c0_617 : Index := 0#32
  let c1792_618 : Index := 1792#32
  ![v1892.toNat, 0, 1792]
def k0_off35 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v1931 : Index := Scalar.indexCast v131
  let c1792_633 : Index := 1792#32
  ![v1931.toNat, 1792]
def k0_off36 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v2013 : Index := Scalar.indexCast v131
  let c0_652 : Index := 0#32
  let c1920 : Index := 1920#32
  ![v2013.toNat, 0, 1920]
def k0_off37 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v2052 : Index := Scalar.indexCast v131
  let c1920_667 : Index := 1920#32
  ![v2052.toNat, 1920]
def k0_off38 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v2134 : Index := Scalar.indexCast v131
  let c0_686 : Index := 0#32
  let c2048_687 : Index := 2048#32
  ![v2134.toNat, 0, 2048]
def k0_off39 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v2173 : Index := Scalar.indexCast v131
  let c2048_703 : Index := 2048#32
  ![v2173.toNat, 2048]
def k0_off40 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v2255 : Index := Scalar.indexCast v131
  let c0_724 : Index := 0#32
  let c2176 : Index := 2176#32
  ![v2255.toNat, 0, 2176]
def k0_off41 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v2294 : Index := Scalar.indexCast v131
  let c2176_739 : Index := 2176#32
  ![v2294.toNat, 2176]
def k0_off42 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v2376 : Index := Scalar.indexCast v131
  let c0_758 : Index := 0#32
  let c2304_759 : Index := 2304#32
  ![v2376.toNat, 0, 2304]
def k0_off43 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v2415 : Index := Scalar.indexCast v131
  let c2304_774 : Index := 2304#32
  ![v2415.toNat, 2304]
def k0_off44 (k0_t1 : Fin k0_t1_loop.trips) : Fin 3 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v2497 : Index := Scalar.indexCast v131
  let c0_793 : Index := 0#32
  let c2432 : Index := 2432#32
  ![v2497.toNat, 0, 2432]
def k0_off45 (k0_t1 : Fin k0_t1_loop.trips) : Fin 2 → Nat :=
  let c0_i32 : BitVec 32 := 0#32
  let c1_i32 : BitVec 32 := 1#32
  let arg14 : BitVec 32 := Scf.iv c0_i32 c1_i32 k0_t1
  let c8_i32 : BitVec 32 := 8#32
  let v130 : BitVec 32 := Scalar.muli arg14 c8_i32
  let v131 : BitVec 32 := v130
  let v2536 : Index := Scalar.indexCast v131
  let c2432_808 : Index := 2432#32
  ![v2536.toNat, 2432]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S128x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6912x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x4x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4x2560 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x20x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DownReferenceIdeal.lean ====
abbrev S12288x6912 : Shape := ⟨2, ![12288, 6912]⟩
abbrev S6912x2560 : Shape := ⟨2, ![6912, 2560]⟩
abbrev S12288x4x2560 : Shape := ⟨3, ![12288, 4, 2560]⟩
abbrev S12288x128 : Shape := ⟨2, ![12288, 128]⟩
abbrev S4x12288x128 : Shape := ⟨3, ![4, 12288, 128]⟩
abbrev S12288x2560 : Shape := ⟨2, ![12288, 2560]⟩
abbrev S12x1024x2560 : Shape := ⟨3, ![12, 1024, 2560]⟩

abbrev nBuf : Space → Nat
  | .hbm => 8
  | .vmem => 0
  | .smem => 0
  | _ => 0

abbrev bufTy : (tb : Table) → Fin (tcTables nBuf tb) → BufTy
  | .hbm, ⟨0, _⟩ => ⟨S12288x6912, .bf16⟩
  | .hbm, ⟨1, _⟩ => ⟨S6912x2560, .bf16⟩
  | .hbm, ⟨2, _⟩ => ⟨S12288x4x2560, .fp8e4m3⟩
  | .hbm, ⟨3, _⟩ => ⟨S12288x128, .f32⟩
  | .hbm, ⟨4, _⟩ => ⟨S4x12288x128, .f32⟩
  | .hbm, ⟨5, _⟩ => ⟨S12288x2560, .f32⟩
  | .hbm, ⟨6, _⟩ => ⟨S12288x2560, .bf16⟩
  | .hbm, ⟨7, _⟩ => ⟨S12x1024x2560, .bf16⟩
  | _, _ => ⟨S12288x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.Up.FrameKit.lean ====
/- What the kernel's frame proof is stated over: the frame from a run that says nothing of the outputs' contents, the body's branch
   condition in closed form over the grid's points, and the buffers of the body as memrefs. -/
module

public import proofs.«01_k».proof.Proof.Gen.Kernel.Frame
public import proofs.«01_k».proof.Proof.Gen.Kernel.Skeleton

@[expose] public section

set_option maxRecDepth 16384

noncomputable section

namespace Cert.Kernel.Up

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- The frame from a run whose arrays are the region's entry contents: each argument's array, an input of the pipeline, ends
    as it was launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 2 rfl).trans ((hA c 2).trans (V_main_arg0 m c)),
      (Pipeline.RDat.FramePost.arr_in h c 3 rfl).trans ((hA c 3).trans (V_main_arg1 m c)),
      (Pipeline.RDat.FramePost.arr_in h c 0 rfl).trans ((hA c 0).trans (V_main_arg2 m c)),
      (Pipeline.RDat.FramePost.arr_in h c 4 rfl).trans ((hA c 4).trans (V_main_arg3 m c)),
      (Pipeline.RDat.FramePost.arr_in h c 1 rfl).trans ((hA c 1).trans (V_main_arg4 m c))⟩) h

/-! ## The body's branch conditions -/

/-- The condition of the body's one branch, from the grid's coordinates. -/
abbrev cond0_0 (i : grid0.Coords) : Prop := k0_cond1 i = 1#1
/-- It holds at the points ≡ 26 (mod 27) — by arithmetic of the point. -/
theorem hcond0_0 : ∀ t : Fin cfg0.N, cond0_0 (grid0.coords t) ↔ t.val % 27 = 26 :=
  (fun t => by
    have ht : t.val < 324 := Nat.lt_of_lt_of_eq t.isLt N_0
    have e0 : (grid0.coords t 0).val = t.val / 27 % 12 := Pipeline.Grid.coords_val t 0 (by decide) rfl
    have e1 : (grid0.coords t 1).val = t.val / 1 % 27 := Pipeline.Grid.coords_val t 1 (by decide) rfl
    simp only [cond0_0, k0_cond1, e0, e1]
    word_cmp
   : ∀ t : Fin grid0.N, cond0_0 (grid0.coords t) ↔ t.val % 27 = 26)

/-! ## Inputs are never idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The body's buffers as memrefs -/

/-- Each window's current staging memref at point `t`, and that it is a whole buffer. -/
abbrev ms0_0 (t : Fin cfg0.N) : Memref sig .tc .smem S20x54 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S20x54 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2560 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2560x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x54x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1024 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2560x256 .bf16 := Memref.whole cc0_scratch0
abbrev scM0_1 : Memref sig .tc .vmem S2560x256 .bf16 := Memref.whole cc0_scratch1
abbrev scM0_2 : Memref sig .tc .vmem S128x256 .f32 := Memref.whole cc0_scratch2
abbrev scM0_3 : Memref sig .tc .vmem S8x54x128 .f32 := Memref.whole cc0_scratch3

/-- The pipeline's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Up

end
-- ==== Proof.Up.FrameRunA.lean ====
/- The kernel's body at a point that is not the last of its batch runs, and leaves its inputs as they were. -/
module

public import proofs.«01_k».proof.Proof.Up.FrameKit

@[expose] public section

set_option maxRecDepth 16384

noncomputable section

namespace Cert.Kernel.Up

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4376000 in
/-- The body's triple where its branch is not taken: from the inputs at their contents and the outputs and scratch at anything, the
    body runs; the inputs are as they were, the outputs and the scratch at some contents. -/
theorem kernelRun0_A (c : Dev nD) (i : grid0.Coords) (arg2 : Memref sig .tc .smem S20x54 .f32) (harg2 : arg2.IsWhole) (arg3 : Memref sig .tc .smem S20x54 .f32) (harg3 : arg3.IsWhole) (arg4 : Memref sig .tc .vmem S1024x2560 .bf16) (harg4 : arg4.IsWhole) (arg5 : Memref sig .tc .vmem S2560x256 .fp8e4m3) (harg5 : arg5.IsWhole) (arg6 : Memref sig .tc .vmem S2560x256 .fp8e4m3) (harg6 : arg6.IsWhole) (arg7 : Memref sig .tc .vmem S1024x256 .bf16) (harg7 : arg7.IsWhole) (arg8 : Memref sig .tc .vmem S1x1024x256 .fp8e4m3) (harg8 : arg8.IsWhole) (arg9 : Memref sig .tc .vmem S1x54x1024 .f32) (harg9 : arg9.IsWhole) (arg10 : Memref sig .tc .vmem S1x256x1024 .fp8e4m3) (harg10 : arg10.IsWhole) (arg11 : Memref sig .tc .vmem S1x8x256 .f32) (harg11 : arg11.IsWhole) (arg12 : Memref sig .tc .vmem S2560x256 .bf16) (harg12 : arg12.IsWhole) (arg13 : Memref sig .tc .vmem S2560x256 .bf16) (harg13 : arg13.IsWhole) (arg14 : Memref sig .tc .vmem S128x256 .f32) (harg14 : arg14.IsWhole) (arg15 : Memref sig .tc .vmem S8x54x128 .f32) (harg15 : arg15.IsWhole) (hc0 : ¬cond0_0 i)
    (x0 : Vec F S20x54 .f32) (x1 : Vec F S20x54 .f32) (x2 : Vec F S1024x2560 .bf16) (x3 : Vec F S2560x256 .fp8e4m3) (x4 : Vec F S2560x256 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_mhc_up i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_mhc_up_eq_skeleton]; unfold cc0_mhc_up_skel
    simp only [k0_part89_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Up

end
-- ==== Proof.Up.FrameRunB.lean ====
/- The kernel's body at the last point of a batch runs, and leaves its inputs as they were. -/
module

public import proofs.«01_k».proof.Proof.Up.FrameRunA

@[expose] public section

set_option maxRecDepth 16384

noncomputable section

namespace Cert.Kernel.Up

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4512000 in
/-- The body's triple where its branch is taken: from the inputs at their contents and the outputs and scratch at anything, the
    body runs; the inputs are as they were, the outputs and the scratch at some contents. -/
theorem kernelRun0_B (c : Dev nD) (i : grid0.Coords) (arg2 : Memref sig .tc .smem S20x54 .f32) (harg2 : arg2.IsWhole) (arg3 : Memref sig .tc .smem S20x54 .f32) (harg3 : arg3.IsWhole) (arg4 : Memref sig .tc .vmem S1024x2560 .bf16) (harg4 : arg4.IsWhole) (arg5 : Memref sig .tc .vmem S2560x256 .fp8e4m3) (harg5 : arg5.IsWhole) (arg6 : Memref sig .tc .vmem S2560x256 .fp8e4m3) (harg6 : arg6.IsWhole) (arg7 : Memref sig .tc .vmem S1024x256 .bf16) (harg7 : arg7.IsWhole) (arg8 : Memref sig .tc .vmem S1x1024x256 .fp8e4m3) (harg8 : arg8.IsWhole) (arg9 : Memref sig .tc .vmem S1x54x1024 .f32) (harg9 : arg9.IsWhole) (arg10 : Memref sig .tc .vmem S1x256x1024 .fp8e4m3) (harg10 : arg10.IsWhole) (arg11 : Memref sig .tc .vmem S1x8x256 .f32) (harg11 : arg11.IsWhole) (arg12 : Memref sig .tc .vmem S2560x256 .bf16) (harg12 : arg12.IsWhole) (arg13 : Memref sig .tc .vmem S2560x256 .bf16) (harg13 : arg13.IsWhole) (arg14 : Memref sig .tc .vmem S128x256 .f32) (harg14 : arg14.IsWhole) (arg15 : Memref sig .tc .vmem S8x54x128 .f32) (harg15 : arg15.IsWhole) (hc0 : cond0_0 i)
    (x0 : Vec F S20x54 .f32) (x1 : Vec F S20x54 .f32) (x2 : Vec F S1024x2560 .bf16) (x3 : Vec F S2560x256 .fp8e4m3) (x4 : Vec F S2560x256 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_mhc_up i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_mhc_up_eq_skeleton]; unfold cc0_mhc_up_skel
    simp only [k0_part89_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Up

end
-- ==== Proof.Up.FrameRun.lean ====
/- The frame of the kernel at any reading of its floats: every run ends, with the arguments unchanged and every counter at zero. -/
module

public import proofs.«01_k».proof.Proof.Up.FrameRunB
public import Idealize.ShloMosaic.Lib.Claim

@[expose] public section

set_option maxRecDepth 16384

noncomputable section

namespace Cert.Kernel.Up

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows whose contents are not named: all five. -/
def forgets0 : Fin 10 → Bool := fun w => w.val == 5 || w.val == 6 || w.val == 7 || w.val == 8 || w.val == 9

/-- The proof data of the pipeline on core `c`: the arrays as the region finds them; after the body at point `t` each input's
    buffer at its block, and nothing named of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region's entry contents. -/
theorem A_eq (c : Dev nD) (w : Fin cfg0.W) : (dats m 0 c).A w = V m c (Pipeline.arrRef spec0 w) := by
  dsimp only [dats]

/-- What the body leaves in each input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point, by the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 324 := lt_of_lt_of_eq t.isLt (show cfg0.N = 324 from N_0)
  by_cases h0 : t.val % 27 = 26
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body at point `t`'s slots, spelled out. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- `run_main`, and every semaphore counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters, every run of the program ends with the pipeline's input arrays unchanged and every other
    buffer outside its region as at entry. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every run ends with the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- Every run ends with the arguments unchanged and every semaphore counter at zero, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Up

end
-- ==== Proof.Up.Kit.lean ====
/- What the two runs of the kernel's body share: the body's one branch condition in closed form over the grid's
   points, the windows' staging memrefs, and the scratch buffers as memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Up

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 26 (mod 27) — by arithmetic of the point. -/
theorem hcond0_0 : ∀ t : Fin cfg0.N, cond0_0 (grid0.coords t) ↔ t.val % 27 = 26 :=
  (fun t => by
    have ht : t.val < 324 := Nat.lt_of_lt_of_eq t.isLt N_0
    have e0 : (grid0.coords t 0).val = t.val / 27 % 12 := Pipeline.Grid.coords_val t 0 (by decide) rfl
    have e1 : (grid0.coords t 1).val = t.val / 1 % 27 := Pipeline.Grid.coords_val t 1 (by decide) rfl
    simp only [cond0_0, k0_cond1, e0, e1]
    word_cmp
   : ∀ t : Fin grid0.N, cond0_0 (grid0.coords t) ↔ t.val % 27 = 26)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S20x54 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S20x54 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2560 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2560x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x54x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1024 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2560x256 .bf16 := Memref.whole cc0_scratch0
abbrev scM0_1 : Memref sig .tc .vmem S2560x256 .bf16 := Memref.whole cc0_scratch1
abbrev scM0_2 : Memref sig .tc .vmem S128x256 .f32 := Memref.whole cc0_scratch2
abbrev scM0_3 : Memref sig .tc .vmem S8x54x128 .f32 := Memref.whole cc0_scratch3

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Up

end
-- ==== Proof.Up.Tile.lean ====
/- The tile functions: what one block of the kernel writes, one definition per quantity, for any reading of the floats. -/
module

public import proofs.«01_k».proof.Proof.Up.Kit

@[expose] public section

set_option maxRecDepth 16384

noncomputable section

namespace Cert.KernelIdeal.Up

open Cert.KernelIdeal.Gen
open Idealize.ShloMosaic Idealize.ShloMosaic.TcCoe Idealize.SL.Sem

variable {F : FTy → Type} [FloatOps F]

/-! ### The quantiser -/

/-- One step of the bisection for the exponent: add `k` where the power of two with the sum as its exponent field is not above `t`. -/
def bstep {S : Shape} (t : FVec F S .f32) (e : IVec S 32) (k : BitVec 32) : IVec S 32 :=
  select (cmpf .oge t (bitcastToFloat .f32 (shli (addi e (broadcast S k)) (broadcast S 23#32)))) (addi e (broadcast S k)) e

/-- The word of the largest power of two not above `t`. -/
def expBits {S : Shape} (t : FVec F S .f32) : IVec S 32 :=
  shli (bstep t (bstep t (bstep t (bstep t (bstep t (bstep t (bstep t (bstep t (broadcast S 0#32) 120#32) 64#32) 32#32) 16#32) 8#32) 4#32)
    2#32) 1#32) (broadcast S 23#32)

/-- The scale of a tile whose largest magnitude over 448 is `t`. -/
def scaleOf {S : Shape} (t : FVec F S .f32) : FVec F S .f32 :=
  select (cmpi .eq (expBits t) (broadcast S 0#32)) (broadcast S (Scalar.ofBits .f32 0x3F800000#32))
    (bitcastToFloat .f32 (addi (expBits t) (broadcast S 8388608#32)))

/-- Its reciprocal. -/
def invOf {S : Shape} (t : FVec F S .f32) : FVec F S .f32 :=
  select (cmpi .eq (expBits t) (broadcast S 0#32)) (broadcast S (Scalar.ofBits .f32 0x3F800000#32))
    (bitcastToFloat .f32 (subi (broadcast S 2122317824#32) (expBits t)))

/-- The codes of a tile of scaled values. -/
def codesOf (v : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32)) v)) bitsLt_fp8e4m3_f32

/-- A tile of dequantised weights: its codes times its scale. -/
def dqTile (s : Elt F .f32) (w : Vec F S128x128 .fp8e4m3) : FVec F S128x128 .bf16 :=
  shapeCast S128x128 (mulf (extf .bf16 w bitsLt_fp8e4m3_bf16) (truncf .bf16 (broadcast S128x128 s) bitsLt_bf16_f32)) shapeCasts_S128x128_S128x128

/-- The gated product of 128 rows. -/
def hmTile (A : Vec F S128x2560 .bf16) (Wg Wu : Vec F S2560x256 .bf16) : FVec F S128x256 .f32 :=
  mulf (mulf (matmul dot_S128x2560_S2560x256_S128x256_1_0_0_1_n_n none A Wg (constant S128x256 .f32 0x00000000#32))
      (logistic (matmul dot_S128x2560_S2560x256_S128x256_1_0_0_1_n_n none A Wg (constant S128x256 .f32 0x00000000#32))))
    (matmul dot_S128x2560_S2560x256_S128x256_1_0_0_1_n_n none A Wu (constant S128x256 .f32 0x00000000#32))

/-- Its left half. -/
def half0 (H : FVec F S128x256 .f32) : FVec F S128x128 .f32 := extractStridedSlice S128x128 ![0, 0] H slices_S128x256_o0_0_S128x128

/-- Its right half. -/
def half1 (H : FVec F S128x256 .f32) : FVec F S128x128 .f32 := extractStridedSlice S128x128 ![0, 128] H slices_S128x256_o0_128_S128x128

/-- Either half. -/
def half (k : Fin 2) (H : FVec F S128x256 .f32) : FVec F S128x128 .f32 := match k with | 0 => half0 H | 1 => half1 H

/-- The largest magnitude of every row of a tile. -/
def rowMax (h : FVec F S128x128 .f32) : FVec F S128x1 .f32 :=
  shapeCast S128x1 (multiReduction .maximumf [1] S128 (absf h) 0xFF800000#32 reduces_S128x128_S128 (.inl rfl) rfl) shapeCasts_S128_S128x1

/-- A row's largest magnitude in every lane. -/
def rowMaxB (h : FVec F S128x128 .f32) : FVec F S128x128 .f32 :=
  broadcastTo S128x128 (shapeCast S128x1 (rowMax h) shapeCasts_S128x1_S128x1) broadcasts_S128x1_S128x128

/-- The lane of every element. -/
def lanes : IVec S128x128 32 := iota .tc S128x128 32 [1] iota_S128x128_d1_w32

/-- The largest magnitudes of the rows of the two halves over 448, in lanes 0 and 1. -/
def rowT (H : FVec F S128x256 .f32) : FVec F S128x128 .f32 :=
  mulf (select (cmpi .eq lanes (broadcast S128x128 1#32)) (rowMaxB (half1 H))
      (select (cmpi .eq lanes (broadcast S128x128 0#32)) (rowMaxB (half0 H)) (broadcast S128x128 (Scalar.ofBits .f32 0x00000000#32))))
    (broadcast S128x128 (Scalar.ofBits .f32 0x3B124925#32))

/-- The largest magnitude of every column of a tile over 448. -/
def colT (h : FVec F S128x128 .f32) : FVec F S1x128 .f32 :=
  mulf (shapeCast S1x128 (multiReduction .maximumf [0] S128 (absf h) 0xFF800000#32 reduces_S128x128_S128_2 (.inl rfl) rfl) shapeCasts_S128_S1x128)
    (broadcast S1x128 (Scalar.ofBits .f32 0x3B124925#32))

/-- Column 0 of a tile. -/
def col0 (x : FVec F S128x128 .f32) : FVec F S128x1 .f32 := extractStridedSlice S128x1 ![0, 0] x slices_S128x128_o0_0_S128x1

/-- Column 1 of a tile. -/
def col1 (x : FVec F S128x128 .f32) : FVec F S128x1 .f32 := extractStridedSlice S128x1 ![0, 1] x slices_S128x128_o0_1_S128x1

/-- Either column. -/
def col (k : Fin 2) (x : FVec F S128x128 .f32) : FVec F S128x1 .f32 := match k with | 0 => col0 x | 1 => col1 x

/-! ### What is written -/

/-- The transposed codes of a tile, quantised by columns. -/
def p8 (h : FVec F S128x128 .f32) : FVec F S1x128x128 .fp8e4m3 :=
  shapeCast S1x128x128 (transpose S128x128 [1, 0] (codesOf (mulf h (broadcastTo S128x128 (invOf (colT h)) broadcasts_S1x128_S128x128)))
    transposes_S128x128_p1_0_S128x128) shapeCasts_S128x128_S1x128x128

/-- The scales of a tile's columns. -/
def p9 (h : FVec F S128x128 .f32) : FVec F S1x1x128 .f32 := shapeCast S1x1x128 (scaleOf (colT h)) shapeCasts_S1x128_S1x1x128

/-- The codes of half `k`, quantised by rows, `h` the half as it is read back. -/
def q6 (k : Fin 2) (H : FVec F S128x256 .f32) (h : FVec F S128x128 .f32) : FVec F S128x128 .fp8e4m3 :=
  codesOf (mulf h (broadcastTo S128x128 (shapeCast S128x1 (col k (invOf (rowT H))) shapeCasts_S128x1_S128x1) broadcasts_S128x1_S128x128))

/-- The same as a block of the array of codes. -/
def p6 (k : Fin 2) (H : FVec F S128x256 .f32) (h : FVec F S128x128 .f32) : FVec F S1x128x128 .fp8e4m3 :=
  shapeCast S1x128x128 (q6 k H h) shapeCasts_S128x128_S1x128x128

/-- The quantised half, dequantised again. -/
def p5 (k : Fin 2) (H : FVec F S128x256 .f32) (h : FVec F S128x128 .f32) : FVec F S128x128 .bf16 :=
  mulf (extf .bf16 (q6 k H h) bitsLt_fp8e4m3_bf16)
    (truncf .bf16 (broadcastTo S128x128 (shapeCast S128x1 (col k (scaleOf (rowT H))) shapeCasts_S128x1_S128x1) broadcasts_S128x1_S128x128) bitsLt_bf16_f32)

/-- The scales of the rows of the two halves. -/
def pS (H : FVec F S128x256 .f32) : FVec F S1x2x128 .f32 :=
  shapeCast S1x2x128 (extractStridedSlice S2x128 ![0, 0] (transpose S128x128 [1, 0] (scaleOf (rowT H)) transposes_S128x128_p1_0_S128x128)
    slices_S128x128_o0_0_S2x128) shapeCasts_S2x128_S1x2x128

end Cert.KernelIdeal.Up
-- ==== Proof.Up.Scalar.lean ====
/- The scale of a tile as a function of its largest magnitude over 448: the bisection on words and the largest power of two on a
   ladder give the same scale and the same reciprocal. -/
module

public import proofs.«01_k».proof.Proof.Up.Tile
public import Idealize.ShloMosaic.Lib.ValueIdx
public import Idealize.ShloMosaic.Lib.IdealHost

@[expose] public section

set_option maxRecDepth 16384

noncomputable section

namespace Cert.KernelIdeal.Up

open Idealize.ShloMosaic Idealize.ShloMosaic.ValueIdx

/-- The power of two whose word has the exponent field `c`. -/
def pw (c : ℕ) : EReal := (((2 : ℝ) ^ ((c : ℤ) - 127) : ℝ) : EReal)

/-- The word with exponent field `c` and no significand. -/
def wd (c : ℕ) : BitVec 32 := BitVec.ofNat 32 c <<< 23

theorem pw_le {a b : ℕ} (h : a ≤ b) : pw a ≤ pw b := by
  unfold pw
  exact EReal.coe_le_coe_iff.mpr (zpow_le_zpow_right₀ (by norm_num : (1 : ℝ) ≤ 2) (by omega))

theorem pw_pos (c : ℕ) : 0 < pw c := by
  unfold pw
  exact_mod_cast (by positivity : (0 : ℝ) < (2 : ℝ) ^ ((c : ℤ) - 127))

/-- A pattern with a positive sign, exponent field `c` and no significand denotes that power of two. -/
theorem ieee_of_fields (b : BitVec 32) (c : ℕ) (h1 : 1 ≤ c) (h2 : c ≤ 254) (ha : (b.extractLsb' (8 + 23) 1 == 1#1) = false)
    (hb : (b.extractLsb' 23 8).toNat = c) (hc : (b.extractLsb' 0 23).toNat = 0) : Ideal.ieee 8 23 b = pw c := by
  unfold Ideal.ieee
  simp only [ha, hb, hc]
  rw [if_neg (by omega), if_neg (by omega)]
  unfold pw
  congr 1
  have h23 : ((2 ^ 23 + 0 : ℕ) : ℝ) = (2 : ℝ) ^ (23 : ℤ) := by norm_num
  rw [h23, if_neg (by simp), one_mul, ← zpow_add₀ (by norm_num : (2 : ℝ) ≠ 0)]
  congr 1
  ring

/-- The fields of the words. -/
theorem wd_fields : ∀ c : Fin 255, ((wd c.val).extractLsb' (8 + 23) 1 == 1#1) = false ∧ ((wd c.val).extractLsb' 23 8).toNat = c.val ∧
    ((wd c.val).extractLsb' 0 23).toNat = 0 := by decide +kernel

/-- What the word denotes. -/
theorem ofBits_wd (c : ℕ) (h1 : 1 ≤ c) (h2 : c ≤ 254) : Ideal.ofBits .f32 (wd c) = pw c :=
  ieee_of_fields (wd c) c h1 h2 (wd_fields ⟨c, by omega⟩).1 (wd_fields ⟨c, by omega⟩).2.1 (wd_fields ⟨c, by omega⟩).2.2

/-- A choice on a word that is zero. -/
theorem select_of_zero {α : Type} (w : BitVec 32) (h : w = 0#32) (a b : α) : Scalar.select (IntOp.cmpi .eq w 0#32) a b = a := by
  subst h
  exact if_pos (by decide)

/-- A choice on a word that is not zero. -/
theorem select_of_ne_zero {α : Type} (w : BitVec 32) (h : w ≠ 0#32) (a b : α) : Scalar.select (IntOp.cmpi .eq w 0#32) a b = b := by
  have e : IntOp.cmpi .eq w 0#32 = 0#1 := by
    show BitVec.ofBool (w == 0#32) = 0#1
    rw [beq_eq_false_iff_ne.mpr h]
    rfl
  exact if_neg (by rw [e]; decide)

/-- The words tell the ranks apart from zero, and count upwards and downwards. -/
theorem wd_zero : ∀ M : Fin 248, (wd M.val = 0#32 ↔ M.val = 0) := by decide +kernel
theorem wd_succ : ∀ M : Fin 248, wd M.val + 8388608#32 = wd (M.val + 1) := by decide +kernel
theorem wd_pred : ∀ M : Fin 248, 2122317824#32 - wd M.val = wd (253 - M.val) := by decide +kernel

/-- The scale at one number. -/
def scaleS (t : EReal) : EReal := scaleOf (F := Ideal) (S := ⟨0, ![]⟩) (fun _ => t) ix0

/-- The reciprocal at one number. -/
def invS (t : EReal) : EReal := invOf (F := Ideal) (S := ⟨0, ![]⟩) (fun _ => t) ix0

theorem scaleOf_apply {S : Shape} (t : FVec Ideal S .f32) (j : S.Idx) : scaleOf t j = scaleS (t j) := rfl

theorem invOf_apply {S : Shape} (t : FVec Ideal S .f32) (j : S.Idx) : invOf t j = invS (t j) := rfl

/-- How many of the 247 powers of two of the ladder are not above `t`. -/
def rank (t : EReal) : ℕ := by
  classical exact ((Finset.range 248).filter fun c => c = 0 ∨ pw c ≤ t).sup id

theorem rank_le (t : EReal) : rank t ≤ 247 := by
  classical
  unfold rank
  refine Finset.sup_le fun c hc => ?_
  have := Finset.mem_range.mp (Finset.mem_filter.mp hc).1
  show c ≤ 247
  omega

/-- A power on the ladder is not above `t` exactly if its exponent field is at most the rank. -/
theorem pw_le_iff (t : EReal) (c : ℕ) (h1 : 1 ≤ c) (h2 : c ≤ 247) : pw c ≤ t ↔ c ≤ rank t := by
  classical
  constructor
  · intro h
    unfold rank
    exact Finset.le_sup (f := id) (Finset.mem_filter.mpr ⟨Finset.mem_range.mpr (by omega), .inr h⟩)
  · intro h
    obtain ⟨m, hm, hs⟩ : ∃ m ∈ (Finset.range 248).filter (fun c => c = 0 ∨ pw c ≤ t), rank t = id m :=
      Finset.exists_mem_eq_sup _ ⟨0, by simp⟩ id
    have hm' := (Finset.mem_filter.mp hm).2
    rw [hs] at h
    simp only [id_eq] at h
    rcases hm' with rfl | hm'
    · omega
    · exact (pw_le h).trans hm'

/-- One step of the bisection on numbers. -/
def stepN (M e k : ℕ) : ℕ := if e + k ≤ M then e + k else e

theorem stepN_le (M e k b : ℕ) (h : e ≤ b) : stepN M e k ≤ b + k := by unfold stepN; split <;> omega

theorem bstep_eq (t : EReal) (e k : ℕ) (h1 : 1 ≤ k) (h2 : e + k ≤ 247) :
    bstep (F := Ideal) (S := ⟨0, ![]⟩) (fun _ => t) (fun _ => BitVec.ofNat 32 e) (BitVec.ofNat 32 k) = fun _ => BitVec.ofNat 32 (stepN (rank t) e k) := by
  funext j
  show Scalar.select (BitVec.ofBool (decide (Ideal.ofBits .f32 ((BitVec.ofNat 32 e + BitVec.ofNat 32 k) <<< (23#32)) ≤ t)))
    (BitVec.ofNat 32 e + BitVec.ofNat 32 k) (BitVec.ofNat 32 e) = _
  rw [← BitVec.ofNat_add]
  have hw : BitVec.ofNat 32 (e + k) <<< (23#32) = wd (e + k) := rfl
  rw [hw, ofBits_wd (e + k) (by omega) (by omega)]
  unfold stepN Scalar.select
  by_cases h : e + k ≤ rank t
  · rw [if_pos h, if_pos]
    simp [(pw_le_iff t (e + k) (by omega) h2).mpr h]
  · rw [if_neg h, if_neg]
    have : ¬ pw (e + k) ≤ t := fun h' => h ((pw_le_iff t (e + k) (by omega) h2).mp h')
    simp [this]

theorem expBits_eq (t : EReal) : expBits (F := Ideal) (S := ⟨0, ![]⟩) (fun _ => t) = fun _ => wd (rank t) := by
  have hb : ∀ M : Fin 248, stepN M (stepN M (stepN M (stepN M (stepN M (stepN M (stepN M (stepN M 0 120) 64) 32) 16) 8) 4) 2) 1 = M.val := by
    decide +kernel
  have hM := rank_le t
  have hr := hb ⟨rank t, by omega⟩
  simp only at hr
  have h1 := stepN_le (rank t) 0 120 0 (le_refl _)
  have h2 := stepN_le (rank t) _ 64 _ h1
  have h3 := stepN_le (rank t) _ 32 _ h2
  have h4 := stepN_le (rank t) _ 16 _ h3
  have h5 := stepN_le (rank t) _ 8 _ h4
  have h6 := stepN_le (rank t) _ 4 _ h5
  have h7 := stepN_le (rank t) _ 2 _ h6
  unfold expBits
  rw [show (broadcast (⟨0, ![]⟩ : Shape) 0#32 : IVec ⟨0, ![]⟩ 32) = fun _ => BitVec.ofNat 32 0 from rfl,
    show (120#32 : BitVec 32) = BitVec.ofNat 32 120 from rfl, bstep_eq t 0 120 (by omega) (by omega),
    show (64#32 : BitVec 32) = BitVec.ofNat 32 64 from rfl, bstep_eq t _ 64 (by omega) (by omega),
    show (32#32 : BitVec 32) = BitVec.ofNat 32 32 from rfl, bstep_eq t _ 32 (by omega) (by omega),
    show (16#32 : BitVec 32) = BitVec.ofNat 32 16 from rfl, bstep_eq t _ 16 (by omega) (by omega),
    show (8#32 : BitVec 32) = BitVec.ofNat 32 8 from rfl, bstep_eq t _ 8 (by omega) (by omega),
    show (4#32 : BitVec 32) = BitVec.ofNat 32 4 from rfl, bstep_eq t _ 4 (by omega) (by omega),
    show (2#32 : BitVec 32) = BitVec.ofNat 32 2 from rfl, bstep_eq t _ 2 (by omega) (by omega),
    show (1#32 : BitVec 32) = BitVec.ofNat 32 1 from rfl, bstep_eq t _ 1 (by omega) (by omega), hr]
  rfl

/-! ### The ladder -/

/-- The largest power of two of the ladder not above `t`, or zero. -/
def below (t : EReal) : EReal :=
  Finset.univ.fold max (Ideal.ofBits .f32 0xFF800000#32) fun k : Fin 247 => if pw (k.val + 1) ≤ t then pw (k.val + 1) else 0

theorem negInf : Ideal.ofBits .f32 0xFF800000#32 = ⊥ := by
  show Ideal.ieee 8 23 (0xFF800000#32 : BitVec 32) = ⊥
  have ha : ((0xFF800000#32 : BitVec 32).extractLsb' 31 1 == 1#1) = true := by decide +kernel
  have hb : ((0xFF800000#32 : BitVec 32).extractLsb' 23 8).toNat = 255 := by decide +kernel
  have hc : ((0xFF800000#32 : BitVec 32).extractLsb' 0 23).toNat = 0 := by decide +kernel
  unfold Ideal.ieee
  simp only [show 8 + 23 = 31 from rfl, ha, hb, hc]
  norm_num

/-- It is the power with the rank as its exponent field, or zero at rank zero. -/
theorem below_eq (t : EReal) : below t = if rank t = 0 then 0 else pw (rank t) := by
  have hM := rank_le t
  unfold below
  rw [negInf]
  refine le_antisymm ?_ ?_
  · refine (Finset.fold_max_le _).mpr ⟨bot_le, fun k _ => ?_⟩
    have hk := k.isLt
    by_cases h : pw (k.val + 1) ≤ t
    · have h' := (pw_le_iff t (k.val + 1) (by omega) (by omega)).mp h
      rw [if_pos h, if_neg (by omega)]
      exact pw_le h'
    · rw [if_neg h]
      split
      · exact le_refl _
      · exact (pw_pos _).le
  · refine (Finset.le_fold_max _).mpr (.inr ?_)
    by_cases h : rank t = 0
    · refine ⟨⟨0, by omega⟩, Finset.mem_univ _, ?_⟩
      rw [if_pos h]
      split
      · exact (pw_pos _).le
      · exact le_refl _
    · refine ⟨⟨rank t - 1, by omega⟩, Finset.mem_univ _, ?_⟩
      have e : rank t - 1 + 1 = rank t := by omega
      show _ ≤ if pw (rank t - 1 + 1) ≤ t then pw (rank t - 1 + 1) else 0
      rw [e, if_neg h, if_pos ((pw_le_iff t (rank t) (by omega) hM).mpr (le_refl _))]

theorem two_mul_pw (c : ℕ) : (2 : EReal) * pw c = pw (c + 1) := by
  unfold pw
  rw [show (2 : EReal) = ((2 : ℝ) : EReal) from rfl, ← EReal.coe_mul]
  congr 1
  rw [show ((c + 1 : ℕ) : ℤ) - 127 = 1 + ((c : ℤ) - 127) by push_cast; ring, zpow_add₀ (by norm_num : (2 : ℝ) ≠ 0), zpow_one]

theorem div_one_pw (c : ℕ) (h : c ≤ 254) : Ideal.div 1 (pw c) = pw (254 - c) := by
  unfold Ideal.div
  rw [if_neg (pw_pos c).ne', one_mul]
  unfold pw
  rw [← EReal.coe_inv, ← zpow_neg]
  congr 2
  omega

theorem pw_127 : pw 127 = 1 := by
  unfold pw
  norm_num

/-- The scale from the ladder. -/
def scaleR (t : EReal) : EReal := if below t = 0 then 1 else 2 * below t

/-- The two scales agree. -/
theorem scaleS_eq (t : EReal) : scaleS t = scaleR t := by
  have hM := rank_le t
  unfold scaleS scaleOf scaleR
  rw [expBits_eq, below_eq]
  generalize hr : rank t = r at hM ⊢
  show Scalar.select (IntOp.cmpi .eq (wd r) 0#32) (Ideal.ofBits .f32 0x3F800000#32) (Ideal.ofBits .f32 (wd r + 8388608#32)) = _
  rw [wd_succ ⟨r, by omega⟩]
  by_cases h : r = 0
  · rw [select_of_zero _ ((wd_zero ⟨r, by omega⟩).mpr h), if_pos h, if_pos rfl]
    exact Ideal.ofBits_one_f32
  · rw [select_of_ne_zero _ (fun hw => h ((wd_zero ⟨r, by omega⟩).mp hw)), if_neg h, if_neg (pw_pos _).ne', two_mul_pw,
      ofBits_wd _ (by simp) (by simp; omega)]

/-- The two reciprocals agree. -/
theorem invS_eq (t : EReal) : invS t = Ideal.div 1 (scaleR t) := by
  have hM := rank_le t
  unfold invS invOf scaleR
  rw [expBits_eq, below_eq]
  generalize hr : rank t = r at hM ⊢
  show Scalar.select (IntOp.cmpi .eq (wd r) 0#32) (Ideal.ofBits .f32 0x3F800000#32) (Ideal.ofBits .f32 (2122317824#32 - wd r)) = _
  rw [wd_pred ⟨r, by omega⟩]
  by_cases h : r = 0
  · rw [select_of_zero _ ((wd_zero ⟨r, by omega⟩).mpr h), if_pos h, if_pos rfl]
    refine Ideal.ofBits_one_f32.trans ?_
    have h := div_one_pw 127 (by omega)
    rw [show 254 - 127 = 127 from rfl, pw_127] at h
    exact h.symm
  · rw [select_of_ne_zero _ (fun hw => h ((wd_zero ⟨r, by omega⟩).mp hw)), if_neg h, if_neg (pw_pos _).ne', two_mul_pw,
      ofBits_wd _ (by simp; omega) (by simp; omega), div_one_pw _ (by omega)]
    congr 1
    simp

end Cert.KernelIdeal.Up
-- ==== Proof.Up.TileAt.lean ====
/- The tile functions read at one element, over the extended reals. -/
module

public import proofs.«01_k».proof.Proof.Up.Scalar
public import Idealize.ShloMosaic.Lib.Pointwise

@[expose] public section

set_option maxRecDepth 16384

noncomputable section

namespace Cert.KernelIdeal.Up

open Cert.KernelIdeal.Gen
open Idealize.ShloMosaic Idealize.ShloMosaic.TcCoe Idealize.SL.Sem

/-- `g · logistic g · p`. -/
def gated (g p : EReal) : EReal := g * Ideal.logistic g * p

/-- The largest magnitude of 128 numbers, over 448. -/
def maxOver448 (f : Fin 128 → EReal) : EReal :=
  Finset.univ.fold max (Ideal.ofBits .f32 0xFF800000#32) (fun k => max (f k) (-(f k))) * Ideal.ofBits .f32 0x3B124925#32

/-- A number times the reciprocal of a scale, clipped to the range of the codes. -/
def codeS (x inv : EReal) : EReal :=
  min (Ideal.ofBits .f32 0x43E00000#32) (max (Ideal.ofBits .f32 0xC3E00000#32) (x * inv))

theorem dqTile_at (s : EReal) (w : Vec Ideal S128x128 .fp8e4m3) (r c : Fin 128) :
    dqTile (F := Ideal) s w (ix2 r c) = w (ix2 r c) * s := by
  unfold dqTile
  pointwise

theorem hmTile_at (A : Vec Ideal S128x2560 .bf16) (Wg Wu : Vec Ideal S2560x256 .bf16) (r : Fin 128) (c : Fin 256) :
    hmTile A Wg Wu (ix2 r c) = gated (∑ k : Fin 2560, A (ix2 r k) * Wg (ix2 k c)) (∑ k : Fin 2560, A (ix2 r k) * Wu (ix2 k c)) := by
  unfold hmTile gated
  pointwise

theorem half_at (k : Fin 2) (H : FVec Ideal S128x256 .f32) (r c : Fin 128) :
    half k H (ix2 r c) = H (ix2 r ⟨128 * k.val + c.val, by omega⟩) := by
  match k with
  | 0 => unfold half half0; pointwise
  | 1 => unfold half half1; pointwise

theorem colT_at (h : FVec Ideal S128x128 .f32) (c : Fin 128) : colT h (ix2 0 c) = maxOver448 fun r => h (ix2 r c) := by
  unfold colT maxOver448
  pointwise
  rfl

theorem rowMaxB_at (h : FVec Ideal S128x128 .f32) (r c : Fin 128) :
    rowMaxB h (ix2 r c) = Finset.univ.fold max (Ideal.ofBits .f32 0xFF800000#32) fun j : Fin 128 => max (h (ix2 r j)) (-(h (ix2 r j))) := by
  unfold rowMaxB rowMax
  pointwise
  rfl

theorem rowT_at (H : FVec Ideal S128x256 .f32) (r : Fin 128) (k : Fin 2) :
    rowT H (ix2 r ⟨k.val, by omega⟩) = maxOver448 fun j => H (ix2 r ⟨128 * k.val + j.val, by omega⟩) := by
  have e : ∀ l : Fin 128, (rowT H (ix2 r l) : EReal)
      = Scalar.select (IntOp.cmpi .eq (BitVec.ofNat 32 l.val) 1#32) (rowMaxB (half1 H) (ix2 r l))
        (Scalar.select (IntOp.cmpi .eq (BitVec.ofNat 32 l.val) 0#32) (rowMaxB (half0 H) (ix2 r l)) (Ideal.ofBits .f32 0x00000000#32))
        * Ideal.ofBits .f32 0x3B124925#32 := fun l => by
    unfold rowT lanes
    pointwise
  match k with
  | 0 =>
    refine (e 0).trans ?_
    rw [show IntOp.cmpi .eq (BitVec.ofNat 32 (0 : Fin 128).val) 1#32 = 0#1 by decide, show IntOp.cmpi .eq (BitVec.ofNat 32 (0 : Fin 128).val) 0#32 = 1#1 by decide,
      ValueIdx.select_zero, ValueIdx.select_one, rowMaxB_at]
    unfold maxOver448
    simp only [show ∀ j : Fin 128, half0 H (ix2 r j) = H (ix2 r ⟨128 * (0 : Fin 2).val + j.val, by omega⟩) from fun j => half_at 0 H r j]
  | 1 =>
    refine (e 1).trans ?_
    rw [show IntOp.cmpi .eq (BitVec.ofNat 32 (1 : Fin 128).val) 1#32 = 1#1 by decide,
      ValueIdx.select_one, rowMaxB_at]
    unfold maxOver448
    simp only [show ∀ j : Fin 128, half1 H (ix2 r j) = H (ix2 r ⟨128 * (1 : Fin 2).val + j.val, by omega⟩) from fun j => half_at 1 H r j]

theorem codesOf_at (v : FVec Ideal S128x128 .f32) (j : S128x128.Idx) :
    codesOf v j = min (Ideal.ofBits .f32 0x43E00000#32) (max (Ideal.ofBits .f32 0xC3E00000#32) (v j)) := rfl

theorem p8_at (h : FVec Ideal S128x128 .f32) (c r : Fin 128) :
    p8 h (ix3 0 c r) = codeS (h (ix2 r c)) (invS (colT h (ix2 0 c))) := by
  unfold p8 codeS
  pointwise
  rw [codesOf_at]
  pointwise
  rfl

theorem p9_at (h : FVec Ideal S128x128 .f32) (c : Fin 128) : p9 h (ix3 0 0 c) = scaleS (colT h (ix2 0 c)) := by
  unfold p9
  pointwise
  rfl

theorem col_at (k : Fin 2) (x : FVec Ideal S128x128 .f32) (r : Fin 128) : col k x (ix2 r 0) = x (ix2 r ⟨k.val, by omega⟩) := by
  match k with
  | 0 => unfold col col0; pointwise
  | 1 => unfold col col1; pointwise

theorem q6_at (k : Fin 2) (H : FVec Ideal S128x256 .f32) (h : FVec Ideal S128x128 .f32) (r c : Fin 128) :
    q6 k H h (ix2 r c) = codeS (h (ix2 r c)) (invS (rowT H (ix2 r ⟨k.val, by omega⟩))) := by
  unfold q6 codeS
  rw [codesOf_at]
  pointwise
  rw [col_at, invOf_apply]

theorem p6_at (k : Fin 2) (H : FVec Ideal S128x256 .f32) (h : FVec Ideal S128x128 .f32) (r c : Fin 128) :
    p6 k H h (ix3 0 r c) = codeS (h (ix2 r c)) (invS (rowT H (ix2 r ⟨k.val, by omega⟩))) := by
  rw [← q6_at]
  unfold p6
  pointwise

theorem p5_at (k : Fin 2) (H : FVec Ideal S128x256 .f32) (h : FVec Ideal S128x128 .f32) (r c : Fin 128) :
    p5 k H h (ix2 r c) = codeS (h (ix2 r c)) (invS (rowT H (ix2 r ⟨k.val, by omega⟩))) * scaleS (rowT H (ix2 r ⟨k.val, by omega⟩)) := by
  rw [← q6_at]
  unfold p5
  pointwise
  rw [col_at, scaleOf_apply]

theorem pS_at (H : FVec Ideal S128x256 .f32) (k : Fin 2) (r : Fin 128) :
    pS H (ix3 0 k r) = scaleS (rowT H (ix2 r ⟨k.val, by omega⟩)) := by
  unfold pS
  pointwise
  rw [scaleOf_apply]

end Cert.KernelIdeal.Up
-- ==== Proof.Up.Spec.lean ====
/- The mathematics of the call, over the extended reals, as functions of coordinates: the gated product of the two dequantised
   products, and its quantisation along rows and along columns in groups of 128. -/
module

public import proofs.«01_k».proof.Proof.Up.TileAt

@[expose] public section

set_option maxRecDepth 16384

noncomputable section

namespace Cert.KernelIdeal.Up

open Idealize.ShloMosaic

/-- The gated product: `silu (a · wg) * (a · wu)`, each weight a code times the scale of its tile of 128 by 128. -/
def hid (A : Fin 12288 → Fin 2560 → EReal) (Wg : Fin 2560 → Fin 6912 → EReal) (Sg : Fin 20 → Fin 54 → EReal)
    (Wu : Fin 2560 → Fin 6912 → EReal) (Su : Fin 20 → Fin 54 → EReal) (ρ : Fin 12288) (c : Fin 6912) : EReal :=
  gated (∑ k : Fin 2560, A ρ k * (Wg k c * Sg ⟨k.val / 128, by omega⟩ ⟨c.val / 128, by omega⟩))
    (∑ k : Fin 2560, A ρ k * (Wu k c * Su ⟨k.val / 128, by omega⟩ ⟨c.val / 128, by omega⟩))

section Quantised
variable (H : Fin 12288 → Fin 6912 → EReal)

/-- The largest magnitude over 448 of the group `kb` of 128 columns, in row `ρ`. -/
def rowMx (ρ : Fin 12288) (kb : Fin 54) : EReal := maxOver448 fun j => H ρ ⟨128 * kb.val + j.val, by omega⟩

/-- The largest magnitude over 448 of the group `t` of 128 rows of batch `b`, in column `c`. -/
def colMx (b : Fin 12) (t : Fin 8) (c : Fin 6912) : EReal := maxOver448 fun r => H ⟨1024 * b.val + (128 * t.val + r.val), by omega⟩ c

/-- The code of the row quantisation. -/
def rowCode (ρ : Fin 12288) (c : Fin 6912) : EReal :=
  codeS (H ρ c) (Ideal.div 1 (scaleR (rowMx H ρ ⟨c.val / 128, by omega⟩)))

/-- The first result: the code of the row quantisation times its scale. -/
def res0 (ρ : Fin 12288) (c : Fin 6912) : EReal := rowCode H ρ c * scaleR (rowMx H ρ ⟨c.val / 128, by omega⟩)
/-- The second result: the codes of the row quantisation, by batch. -/
def res1 (b : Fin 12) (s : Fin 1024) (c : Fin 6912) : EReal := rowCode H ⟨1024 * b.val + s.val, by omega⟩ c
/-- The third result: the scales of the row quantisation, by batch, the group of columns before the row. -/
def res2 (b : Fin 12) (kb : Fin 54) (s : Fin 1024) : EReal := scaleR (rowMx H ⟨1024 * b.val + s.val, by omega⟩ kb)
/-- The fourth result: the codes of the column quantisation, by batch, transposed. -/
def res3 (b : Fin 12) (c : Fin 6912) (s : Fin 1024) : EReal :=
  codeS (H ⟨1024 * b.val + s.val, by omega⟩ c) (Ideal.div 1 (scaleR (colMx H b ⟨s.val / 128, by omega⟩ c)))
/-- The fifth result: the scales of the column quantisation. -/
def res4 (b : Fin 12) (t : Fin 8) (c : Fin 6912) : EReal := scaleR (colMx H b t c)

end Quantised

end Cert.KernelIdeal.Up
-- ==== Proof.Up.RefValue.lean ====
/- The reference's arrays over the extended reals, read at one element: the functions of coordinates of the specification. -/
module

public import proofs.«01_k».proof.Proof.Up.Spec
public import proofs.«01_k».proof.Proof.Gen.ReferenceIdeal.Skeleton

@[expose] public section

set_option maxRecDepth 16384

noncomputable section

namespace Cert.ReferenceIdeal.Up

open Cert.ReferenceIdeal.Gen Cert.KernelIdeal.Up
open Idealize.ShloMosaic Idealize.ShloMosaic.TcCoe Idealize.SL.Sem

/-- An entry of the ladder is a power of two. -/
theorem ladder (k : Fin 247) :
    (FloatOps.exp2 (F := Ideal) (FloatOps.sitofp .f32 (IntOp.subi (BitVec.ofNat 32 k.val) 126#32) : Ideal .f32) : EReal) = pw (k.val + 1) := by
  have h : (IntOp.subi (BitVec.ofNat 32 k.val) 126#32).toInt = ((k.val + 1 : ℕ) : ℤ) - 127 := by
    revert k; decide +kernel
  show FloatOps.exp2 (F := Ideal) (φ := .f32) (((((IntOp.subi (BitVec.ofNat 32 k.val) 126#32).toInt : ℝ)) : EReal)) = _
  rw [h]
  unfold pw
  show (((2 : ℝ) ^ ((((k.val + 1 : ℕ) : ℤ) - 127 : ℤ) : ℝ) : ℝ) : EReal) = _
  rw [Real.rpow_intCast]

/-- The word of the number two. -/
theorem ofBits_two : Ideal.ofBits .f32 0x40000000#32 = 2 := by
  rw [show (0x40000000#32 : BitVec 32) = wd 128 by decide, ofBits_wd 128 (by decide) (by decide)]
  unfold pw
  norm_num
  rfl

/-- The scale of a number, from the largest power of two below it. -/
theorem scale_of (t m : EReal) (h : m = below t) : (if m = 0 then 1 else Ideal.ofBits .f32 0x40000000#32 * m) = scaleR t := by
  rw [h, ofBits_two]; rfl

/-! ### The gated product -/

theorem pay5_at (v0 : Vec Ideal S12288x2560 .bf16) (v1 : Vec Ideal S2560x6912 .fp8e4m3) (v2 : Vec Ideal S20x54 .f32)
    (v11 : Vec Ideal S2560x6912 .fp8e4m3) (v12 : Vec Ideal S20x54 .f32) (ρ : Fin 12288) (c : Fin 6912) :
    k0_pay5 v0 v1 v2 v11 v12 (ix2 ρ c) = hid (fun r k => v0 (ix2 r k)) (fun k c => v1 (ix2 k c)) (fun k c => v2 (ix2 k c))
      (fun k c => v11 (ix2 k c)) (fun k c => v12 (ix2 k c)) ρ c := by
  unfold k0_pay5 hid gated
  pointwise

/-! ### The row quantisation -/

theorem rowReduce_at (x : FVec Ideal S12x1024x54x128 .f32) (b : Fin 12) (s : Fin 1024) (kb : Fin 54) :
    multiReduction .maximumf [3] S12x1024x54 x 0xFF800000#32 reduces_S12x1024x54x128_S12x1024x54 (.inl rfl) rfl (ix3 b s kb)
      = Finset.univ.fold max (Ideal.ofBits .f32 0xFF800000#32) fun r : Fin 128 => x (ix4 b s kb r) := by
  pointwise

theorem rowLadderMax_at (x : FVec Ideal S12x1024x54x247 .f32) (b : Fin 12) (s : Fin 1024) (kb : Fin 54) :
    multiReduction .maximumf [3] S12x1024x54 x 0xFF800000#32 reduces_S12x1024x54x247_S12x1024x54 (.inl rfl) rfl (ix3 b s kb)
      = Finset.univ.fold max (Ideal.ofBits .f32 0xFF800000#32) fun r : Fin 247 => x (ix4 b s kb r) := by
  pointwise

theorem rowLadder_at (x : FVec Ideal S12x1024x54 .f32) (b : Fin 12) (s : Fin 1024) (kb : Fin 54) (r : Fin 247) :
    (select (cmpf .oge (broadcastTo S12x1024x54x247 (shapeCast S12x1024x54x1 x shapeCasts_S12x1024x54_S12x1024x54x1) broadcasts_S12x1024x54x1_S12x1024x54x247)
        (exp2 (sitofp .f32 (subi (iota .tc S12x1024x54x247 32 [3] iota_S12x1024x54x247_d3_w32) (broadcast S12x1024x54x247 126#32))) : FVec Ideal S12x1024x54x247 .f32))
      (exp2 (sitofp .f32 (subi (iota .tc S12x1024x54x247 32 [3] iota_S12x1024x54x247_d3_w32) (broadcast S12x1024x54x247 126#32))) : FVec Ideal S12x1024x54x247 .f32)
      (broadcast S12x1024x54x247 (Scalar.ofBits (F := Ideal) .f32 0x00000000#32)) (ix4 b s kb r) : EReal)
      = if FloatOps.exp2 (F := Ideal) (FloatOps.sitofp .f32 (IntOp.subi (BitVec.ofNat 32 r.val) 126#32)) ≤ x (ix3 b s kb)
        then FloatOps.exp2 (F := Ideal) (FloatOps.sitofp .f32 (IntOp.subi (BitVec.ofNat 32 r.val) 126#32)) else 0 := by
  pointwise

theorem rowAbs_at (x : FVec Ideal S12x1024x54x128 .f32) (b : Fin 12) (s : Fin 1024) (kb : Fin 54) (r : Fin 128) :
    (absf x (ix4 b s kb r) : EReal) = max (x (ix4 b s kb r)) (-(x (ix4 b s kb r))) := by
  pointwise
  rfl

theorem rowOver_at (x : FVec Ideal S12x1024x54 .f32) (b : Fin 12) (s : Fin 1024) (kb : Fin 54) :
    (mulf x (broadcast S12x1024x54 (Scalar.ofBits (F := Ideal) .f32 0x3B124925#32)) (ix3 b s kb) : EReal)
      = x (ix3 b s kb) * Ideal.ofBits .f32 0x3B124925#32 := by
  pointwise

theorem rowScale_at (m : FVec Ideal S12x1024x54 .f32) (b : Fin 12) (s : Fin 1024) (kb : Fin 54) :
    (k0_pay9 m (cmpf .oeq m (broadcast S12x1024x54 (Scalar.ofBits (F := Ideal) .f32 0x00000000#32))) (ix3 b s kb) : EReal)
      = if m (ix3 b s kb) = 0 then 1 else Ideal.ofBits .f32 0x40000000#32 * m (ix3 b s kb) := by
  unfold k0_pay9
  pointwise

theorem rowSplit_at (x : FVec Ideal S12288x6912 .f32) (b : Fin 12) (s : Fin 1024) (kb : Fin 54) (r : Fin 128) :
    shapeCast S12x1024x54x128 x shapeCasts_S12288x6912_S12x1024x54x128 (ix4 b s kb r)
      = x (ix2 ⟨b.val * 1024 + s.val, by omega⟩ ⟨kb.val * 128 + r.val, by omega⟩) := by
  pointwise

theorem pay1_at (x : FVec Ideal S12x1024x54x128 .f32) (v39 : FVec Ideal S12x1024x54 .f32) (v41 : IVec S12x1024x54 1) (ρ : Fin 12288) (c : Fin 6912) :
    (k0_pay1 (k0_pay11 x v39 v41) (ix2 ρ c) : EReal)
      = codeS (x (ix4 ⟨ρ.val / 1024, by omega⟩ ⟨ρ.val % 1024, by omega⟩ ⟨c.val / 128, by omega⟩ ⟨c.val % 128, by omega⟩))
          (Ideal.div 1 (k0_pay9 v39 v41 (ix3 ⟨ρ.val / 1024, by omega⟩ ⟨ρ.val % 1024, by omega⟩ ⟨c.val / 128, by omega⟩)))
        * k0_pay9 v39 v41 (ix3 ⟨ρ.val / 1024, by omega⟩ ⟨ρ.val % 1024, by omega⟩ ⟨c.val / 128, by omega⟩) := by
  unfold k0_pay1 k0_pay11 k0_pay10 codeS
  generalize k0_pay9 v39 v41 = S
  pointwise

theorem pay2_at (x : FVec Ideal S12x1024x54x128 .f32) (v39 : FVec Ideal S12x1024x54 .f32) (v41 : IVec S12x1024x54 1) (b : Fin 12) (s : Fin 1024) (c : Fin 6912) :
    (k0_pay2 (k0_pay10 x v39 v41) (ix3 b s c) : EReal)
      = codeS (x (ix4 b s ⟨c.val / 128, by omega⟩ ⟨c.val % 128, by omega⟩)) (Ideal.div 1 (k0_pay9 v39 v41 (ix3 b s ⟨c.val / 128, by omega⟩))) := by
  unfold k0_pay2 k0_pay10 codeS
  generalize k0_pay9 v39 v41 = S
  pointwise

theorem pay3_at (x : FVec Ideal S12x1024x54 .f32) (b : Fin 12) (kb : Fin 54) (s : Fin 1024) : k0_pay3 x (ix3 b kb s) = x (ix3 b s kb) := by
  unfold k0_pay3
  pointwise

/-! ### The column quantisation -/

theorem colReduce_at (x : FVec Ideal S12x8x128x6912 .f32) (b : Fin 12) (t : Fin 8) (c : Fin 6912) :
    multiReduction .maximumf [2] S12x8x6912 x 0xFF800000#32 reduces_S12x8x128x6912_S12x8x6912 (.inl rfl) rfl (ix3 b t c)
      = Finset.univ.fold max (Ideal.ofBits .f32 0xFF800000#32) fun r : Fin 128 => x (ix4 b t r c) := by
  pointwise

theorem colLadderMax_at (x : FVec Ideal S12x8x6912x247 .f32) (b : Fin 12) (t : Fin 8) (c : Fin 6912) :
    multiReduction .maximumf [3] S12x8x6912 x 0xFF800000#32 reduces_S12x8x6912x247_S12x8x6912 (.inl rfl) rfl (ix3 b t c)
      = Finset.univ.fold max (Ideal.ofBits .f32 0xFF800000#32) fun r : Fin 247 => x (ix4 b t c r) := by
  pointwise

theorem colLadder_at (x : FVec Ideal S12x8x6912 .f32) (b : Fin 12) (t : Fin 8) (c : Fin 6912) (r : Fin 247) :
    (select (cmpf .oge (broadcastTo S12x8x6912x247 (shapeCast S12x8x6912x1 x shapeCasts_S12x8x6912_S12x8x6912x1) broadcasts_S12x8x6912x1_S12x8x6912x247)
        (exp2 (sitofp .f32 (subi (iota .tc S12x8x6912x247 32 [3] iota_S12x8x6912x247_d3_w32) (broadcast S12x8x6912x247 126#32))) : FVec Ideal S12x8x6912x247 .f32))
      (exp2 (sitofp .f32 (subi (iota .tc S12x8x6912x247 32 [3] iota_S12x8x6912x247_d3_w32) (broadcast S12x8x6912x247 126#32))) : FVec Ideal S12x8x6912x247 .f32)
      (broadcast S12x8x6912x247 (Scalar.ofBits (F := Ideal) .f32 0x00000000#32)) (ix4 b t c r) : EReal)
      = if FloatOps.exp2 (F := Ideal) (FloatOps.sitofp .f32 (IntOp.subi (BitVec.ofNat 32 r.val) 126#32)) ≤ x (ix3 b t c)
        then FloatOps.exp2 (F := Ideal) (FloatOps.sitofp .f32 (IntOp.subi (BitVec.ofNat 32 r.val) 126#32)) else 0 := by
  pointwise

theorem colAbs_at (x : FVec Ideal S12x8x128x6912 .f32) (b : Fin 12) (t : Fin 8) (r : Fin 128) (c : Fin 6912) :
    (absf x (ix4 b t r c) : EReal) = max (x (ix4 b t r c)) (-(x (ix4 b t r c))) := by
  pointwise
  rfl

theorem colOver_at (x : FVec Ideal S12x8x6912 .f32) (b : Fin 12) (t : Fin 8) (c : Fin 6912) :
    (mulf x (broadcast S12x8x6912 (Scalar.ofBits (F := Ideal) .f32 0x3B124925#32)) (ix3 b t c) : EReal)
      = x (ix3 b t c) * Ideal.ofBits .f32 0x3B124925#32 := by
  pointwise

theorem colScale_at (m : FVec Ideal S12x8x6912 .f32) (b : Fin 12) (t : Fin 8) (c : Fin 6912) :
    (select (cmpf .oeq m (broadcast S12x8x6912 (Scalar.ofBits (F := Ideal) .f32 0x00000000#32))) (broadcast S12x8x6912 (Scalar.ofBits (F := Ideal) .f32 0x3F800000#32))
      (mulf (broadcast S12x8x6912 (Scalar.ofBits (F := Ideal) .f32 0x40000000#32)) m) (ix3 b t c) : EReal)
      = if m (ix3 b t c) = 0 then 1 else Ideal.ofBits .f32 0x40000000#32 * m (ix3 b t c) := by
  pointwise

theorem colSplit_at (x : FVec Ideal S12288x6912 .f32) (b : Fin 12) (t : Fin 8) (r : Fin 128) (c : Fin 6912) :
    k0_pay12 x (ix4 b t r c) = x (ix2 ⟨b.val * 1024 + t.val * 128 + r.val, by omega⟩ c) := by
  unfold k0_pay12
  pointwise

theorem colTimes_at (x : FVec Ideal S12x8x128x6912 .f32) (S : FVec Ideal S12x8x6912 .f32) (b : Fin 12) (t : Fin 8) (r : Fin 128) (c : Fin 6912) :
    (mulf x (broadcastTo S12x8x128x6912 (shapeCast S12x8x1x6912 (divf (broadcast S12x8x6912 (Scalar.ofBits (F := Ideal) .f32 0x3F800000#32)) S)
      shapeCasts_S12x8x6912_S12x8x1x6912) broadcasts_S12x8x1x6912_S12x8x128x6912) (ix4 b t r c) : EReal)
      = x (ix4 b t r c) * Ideal.div 1 (S (ix3 b t c)) := by
  pointwise

theorem pay4_at (x : FVec Ideal S12x8x128x6912 .f32) (b : Fin 12) (s : Fin 1024) (c : Fin 6912) :
    (k0_pay4 x (ix3 b c s) : EReal) = min (Ideal.ofBits .f32 0x43E00000#32)
      (max (Ideal.ofBits .f32 0xC3E00000#32) (x (ix4 b ⟨s.val / 128, by omega⟩ ⟨s.val % 128, by omega⟩ c))) := by
  unfold k0_pay4
  pointwise

/-! ### The scales -/

section Scales
variable (v0 : Vec Ideal S12288x2560 .bf16) (v1 : Vec Ideal S2560x6912 .fp8e4m3) (v2 : Vec Ideal S20x54 .f32)
  (v11 : Vec Ideal S2560x6912 .fp8e4m3) (v12 : Vec Ideal S20x54 .f32)

/-- The gated product of the arguments, as a function of coordinates. -/
def hidA (ρ : Fin 12288) (c : Fin 6912) : EReal := k0_pay5 v0 v1 v2 v11 v12 (ix2 ρ c)

/-- The largest power of two that is not above a group's largest magnitude over 448. -/
theorem pay7_at (b : Fin 12) (s : Fin 1024) (kb : Fin 54) :
    (k0_pay7 v0 v1 v2 v11 v12 (ix3 b s kb) : EReal)
      = below (rowMx (hidA v0 v1 v2 v11 v12) ⟨1024 * b.val + s.val, by omega⟩ kb) := by
  unfold k0_pay7 k0_pay6
  refine (rowLadderMax_at _ b s kb).trans ?_
  unfold below
  refine Finset.fold_congr fun k _ => ?_
  refine (rowLadder_at _ b s kb k).trans ?_
  rw [ladder, rowOver_at, rowReduce_at]
  have e : (Finset.univ.fold max (Ideal.ofBits .f32 0xFF800000#32) fun r : Fin 128 =>
      (absf (shapeCast S12x1024x54x128 (k0_pay5 v0 v1 v2 v11 v12) shapeCasts_S12288x6912_S12x1024x54x128) (ix4 b s kb r) : EReal))
      * Ideal.ofBits .f32 0x3B124925#32 = rowMx (hidA v0 v1 v2 v11 v12) ⟨1024 * b.val + s.val, by omega⟩ kb := by
    unfold rowMx maxOver448 hidA
    refine congrArg (· * _) (Finset.fold_congr fun r _ => ?_)
    rw [rowAbs_at, rowSplit_at]
    have h0 : (⟨b.val * 1024 + s.val, by omega⟩ : Fin 12288) = ⟨1024 * b.val + s.val, by omega⟩ := Fin.ext (by dsimp only; omega)
    have h1 : (⟨kb.val * 128 + r.val, by omega⟩ : Fin 6912) = ⟨128 * kb.val + r.val, by omega⟩ := Fin.ext (by dsimp only; omega)
    rw [h0, h1]
  rw [e]

/-- The scale of a group of columns of a row. -/
theorem pay9_at (b : Fin 12) (s : Fin 1024) (kb : Fin 54) :
    (k0_pay9 (k0_pay7 v0 v1 v2 v11 v12) (k0_pay8 v0 v1 v2 v11 v12) (ix3 b s kb) : EReal)
      = scaleR (rowMx (hidA v0 v1 v2 v11 v12) ⟨1024 * b.val + s.val, by omega⟩ kb) := by
  unfold k0_pay8
  rw [rowScale_at]
  exact scale_of _ _ (pay7_at v0 v1 v2 v11 v12 b s kb)

/-- The scale of a group of rows in a column. -/
theorem pay13_at (b : Fin 12) (t : Fin 8) (c : Fin 6912) :
    (k0_pay13 (k0_pay5 v0 v1 v2 v11 v12) (ix3 b t c) : EReal) = scaleR (colMx (hidA v0 v1 v2 v11 v12) b t c) := by
  unfold k0_pay13
  refine (colScale_at _ b t c).trans (scale_of _ _ ?_)
  refine (colLadderMax_at _ b t c).trans ?_
  unfold below
  refine Finset.fold_congr fun k _ => ?_
  refine (colLadder_at _ b t c k).trans ?_
  rw [ladder, colOver_at, colReduce_at]
  have e : (Finset.univ.fold max (Ideal.ofBits .f32 0xFF800000#32) fun r : Fin 128 =>
      (absf (k0_pay12 (k0_pay5 v0 v1 v2 v11 v12)) (ix4 b t r c) : EReal))
      * Ideal.ofBits .f32 0x3B124925#32 = colMx (hidA v0 v1 v2 v11 v12) b t c := by
    unfold colMx maxOver448 hidA
    refine congrArg (· * _) (Finset.fold_congr fun r _ => ?_)
    rw [colAbs_at, colSplit_at]
    have h0 : (⟨b.val * 1024 + t.val * 128 + r.val, by omega⟩ : Fin 12288) = ⟨1024 * b.val + (128 * t.val + r.val), by omega⟩ := Fin.ext (by dsimp only; omega)
    rw [h0]
  rw [e]

/-! ### The five results -/

theorem ref0 (ρ : Fin 12288) (c : Fin 6912) :
    (k0_pay1 (k0_pay11 (k0_pay6 v0 v1 v2 v11 v12) (k0_pay7 v0 v1 v2 v11 v12) (k0_pay8 v0 v1 v2 v11 v12)) (ix2 ρ c) : EReal)
      = res0 (hidA v0 v1 v2 v11 v12) ρ c := by
  rw [pay1_at, pay9_at]
  unfold k0_pay6 res0 rowCode
  rw [rowSplit_at]
  have h0 : (⟨ρ.val / 1024 * 1024 + ρ.val % 1024, by omega⟩ : Fin 12288) = ρ := Fin.ext (by dsimp only; omega)
  have h0' : (⟨1024 * (ρ.val / 1024) + ρ.val % 1024, by omega⟩ : Fin 12288) = ρ := Fin.ext (by dsimp only; omega)
  have h1 : (⟨c.val / 128 * 128 + c.val % 128, by omega⟩ : Fin 6912) = c := Fin.ext (by dsimp only; omega)
  show codeS (k0_pay5 v0 v1 v2 v11 v12 (ix2 ⟨ρ.val / 1024 * 1024 + ρ.val % 1024, _⟩ ⟨c.val / 128 * 128 + c.val % 128, _⟩)) (Ideal.div 1 (scaleR (rowMx _ ⟨1024 * (ρ.val / 1024) + ρ.val % 1024, _⟩ _)))
    * scaleR (rowMx _ ⟨1024 * (ρ.val / 1024) + ρ.val % 1024, _⟩ _) = _
  rw [h0, h0', h1]
  rfl

theorem ref1 (b : Fin 12) (s : Fin 1024) (c : Fin 6912) :
    (k0_pay2 (k0_pay10 (k0_pay6 v0 v1 v2 v11 v12) (k0_pay7 v0 v1 v2 v11 v12) (k0_pay8 v0 v1 v2 v11 v12)) (ix3 b s c) : EReal)
      = res1 (hidA v0 v1 v2 v11 v12) b s c := by
  rw [pay2_at, pay9_at]
  unfold k0_pay6 res1 rowCode
  rw [rowSplit_at]
  have h0 : (⟨b.val * 1024 + s.val, by omega⟩ : Fin 12288) = ⟨1024 * b.val + s.val, by omega⟩ := Fin.ext (by dsimp only; omega)
  have h1 : (⟨c.val / 128 * 128 + c.val % 128, by omega⟩ : Fin 6912) = c := Fin.ext (by dsimp only; omega)
  show codeS (k0_pay5 v0 v1 v2 v11 v12 (ix2 _ ⟨c.val / 128 * 128 + c.val % 128, _⟩)) _ = _
  rw [h0, h1]
  rfl

theorem ref2 (b : Fin 12) (kb : Fin 54) (s : Fin 1024) :
    (k0_pay3 (k0_pay9 (k0_pay7 v0 v1 v2 v11 v12) (k0_pay8 v0 v1 v2 v11 v12)) (ix3 b kb s) : EReal) = res2 (hidA v0 v1 v2 v11 v12) b kb s := by
  rw [pay3_at, pay9_at]
  rfl

theorem ref3 (b : Fin 12) (c : Fin 6912) (s : Fin 1024) :
    (k0_pay4 (k0_pay14 (k0_pay5 v0 v1 v2 v11 v12)) (ix3 b c s) : EReal) = res3 (hidA v0 v1 v2 v11 v12) b c s := by
  rw [pay4_at]
  unfold k0_pay14
  rw [colTimes_at, pay13_at, colSplit_at]
  have h0 : (⟨b.val * 1024 + s.val / 128 * 128 + s.val % 128, by omega⟩ : Fin 12288) = ⟨1024 * b.val + s.val, by omega⟩ := Fin.ext (by dsimp only; omega)
  show min _ (max _ (k0_pay5 v0 v1 v2 v11 v12 (ix2 ⟨b.val * 1024 + s.val / 128 * 128 + s.val % 128, _⟩ c) * _)) = _
  rw [h0]
  rfl

theorem ref4 (b : Fin 12) (t : Fin 8) (c : Fin 6912) :
    (k0_pay13 (k0_pay5 v0 v1 v2 v11 v12) (ix3 b t c) : EReal) = res4 (hidA v0 v1 v2 v11 v12) b t c := by
  rw [pay13_at]
  rfl

end Scales

end Cert.ReferenceIdeal.Up
-- ==== Proof.Up.Lists.lean ====
/- The stores of one block as lists of pieces, one function per buffer: the pieces of 128 rows, two per step, the last first. -/
module

public import proofs.«01_k».proof.Proof.Up.Tile

@[expose] public section

set_option maxRecDepth 16384

noncomputable section

namespace Cert.KernelIdeal.Up

open Cert.KernelIdeal.Gen
open Idealize.ShloMosaic Idealize.ShloMosaic.TcCoe Idealize.SL.Sem Idealize.ShloMosaic.Tactic

variable {F : FTy → Type} [FloatOps F]

/-! ### Where things are read and written -/

/-- The entry of the table of weight scales that tile `kb`, `nb` of column block `i 1` reads. -/
def offS (i : grid0.Coords) (kb : Fin 20) (nb : Fin 2) : Fin 2 → Nat :=
  ![kb.val, (Scalar.indexCast (Scalar.addi (Scalar.muli (BitVec.ofNat 32 (i 1).val) 2#32) (BitVec.ofNat 32 nb.val))).toNat]

/-- The rows of the scratch of row scales that step `t` of column block `i 1` writes. -/
def offR (i : grid0.Coords) (t : Fin 8) : Fin 3 → Nat :=
  ![t.val, (Scalar.indexCast (Scalar.muli (BitVec.ofNat 32 (i 1).val) 2#32)).toNat, 0]

/-- The entry's column, as a number. -/
theorem offS_1 (i : grid0.Coords) (kb : Fin 20) (nb : Fin 2) : offS i kb nb 1 = 2 * (i 1).val + nb.val := by
  have h : ∀ (n : Fin 27) (m : Fin 2), (Scalar.indexCast (Scalar.addi (Scalar.muli (BitVec.ofNat 32 n.val) 2#32) (BitVec.ofNat 32 m.val))).toNat = 2 * n.val + m.val := by
    decide +kernel
  exact h (i 1) nb

/-- The first row, as a number. -/
theorem offR_1 (i : grid0.Coords) (t : Fin 8) : offR i t 1 = 2 * (i 1).val := by
  have h : ∀ (n : Fin 27), (Scalar.indexCast (Scalar.muli (BitVec.ofNat 32 n.val) 2#32)).toNat = 2 * n.val := by decide +kernel
  exact h (i 1)

theorem inbS (i : grid0.Coords) (kb : Fin 20) (nb : Fin 2) : ∀ a, offS i kb nb a + S1x1.size a ≤ S20x54.size a := by
  have hn : (i 1).val < 27 := (i 1).isLt
  intro a
  match a with
  | ⟨0, _⟩ => show kb.val + 1 ≤ 20; omega
  | ⟨1, _⟩ => show offS i kb nb 1 + 1 ≤ 54; rw [offS_1]; omega

theorem inbR (i : grid0.Coords) (t : Fin 8) : ∀ a, offR i t a + S1x2x128.size a ≤ S8x54x128.size a := by
  have hn : (i 1).val < 27 := (i 1).isLt
  intro a
  match a with
  | ⟨0, _⟩ => show t.val + 1 ≤ 8; omega
  | ⟨1, _⟩ => show offR i t 1 + 2 ≤ 54; rw [offR_1]; omega
  | ⟨2, _⟩ => show 0 + 128 ≤ 128; omega

theorem inbA : ∀ (t : Fin 8) (a), (![128 * t.val, 0] : Fin 2 → Nat) a + S128x2560.size a ≤ S1024x2560.size a := by decide +kernel
theorem inbW : ∀ (kb : Fin 20) (nb : Fin 2) (a), (![128 * kb.val, 128 * nb.val] : Fin 2 → Nat) a + S128x128.size a ≤ S2560x256.size a := by
  decide +kernel
theorem inb5 : ∀ (t : Fin 8) (k : Fin 2) (a), (![128 * t.val, 128 * k.val] : Fin 2 → Nat) a + S128x128.size a ≤ S1024x256.size a := by
  decide +kernel
theorem inb6 : ∀ (t : Fin 8) (k : Fin 2) (a), (![0, 128 * t.val, 128 * k.val] : Fin 3 → Nat) a + S1x128x128.size a ≤ S1x1024x256.size a := by
  decide +kernel
theorem inb8 : ∀ (t : Fin 8) (k : Fin 2) (a), (![0, 128 * k.val, 128 * t.val] : Fin 3 → Nat) a + S1x128x128.size a ≤ S1x256x1024.size a := by
  decide +kernel
theorem inb9 : ∀ (t : Fin 8) (k : Fin 2) (a), (![0, t.val, 128 * k.val] : Fin 3 → Nat) a + S1x1x128.size a ≤ S1x8x256.size a := by
  decide +kernel
theorem inb7 : ∀ (t : Fin 8) (a), (![0, 0, 128 * t.val] : Fin 3 → Nat) a + S1x54x128.size a ≤ S1x54x1024.size a := by decide +kernel
theorem inbH7 : ∀ (t : Fin 8) (a), (![t.val, 0, 0] : Fin 3 → Nat) a + S1x54x128.size a ≤ S8x54x128.size a := by decide +kernel
theorem inbH : ∀ (k : Fin 2) (a), (![0, 128 * k.val] : Fin 2 → Nat) a + S128x128.size a ≤ S128x256.size a := by decide +kernel

/-- The steps, the last first. -/
def steps : List (Fin 8) := [7, 6, 5, 4, 3, 2, 1, 0]

/-- The rows of weight tiles, the last first. -/
def tiles : List (Fin 20) := [19, 18, 17, 16, 15, 14, 13, 12, 11, 10, 9, 8, 7, 6, 5, 4, 3, 2, 1, 0]

/-! ### The dequantised weights -/

section Weights
variable (ms : Memref sig .tc .smem S20x54 .f32) (hms : ms.IsWhole) (mw : Memref sig .tc .vmem S2560x256 .fp8e4m3) (hmw : mw.IsWhole)
variable (i : grid0.Coords) (s : Vec F S20x54 .f32) (w : Vec F S2560x256 .fp8e4m3)

/-- The scale of tile `kb`, `nb`, as it is loaded. -/
def sLoad (kb : Fin 20) (nb : Fin 2) : Elt F .f32 :=
  View.readAt (Elt F) ms.view (Rect.unit (s := S20x54) (offS i kb nb) S1x1.size (inbS i kb nb)).toLoadRect (hms.unread s) (Shape.Idx.first (show 0 < S1x1.numel by decide))

/-- The codes of tile `kb`, `nb`, as they are loaded. -/
def wLoad (kb : Fin 20) (nb : Fin 2) : Vec F S128x128 .fp8e4m3 :=
  View.readAt (Elt F) mw.view (Rect.unit (s := S2560x256) ![128 * kb.val, 128 * nb.val] S128x128.size (inbW kb nb)).toLoadRect (hmw.unread w)

/-- The stores of the dequantised weights. -/
def dqL : List (View.Piece (Elt F) S2560x256 .bf16) :=
  tiles.flatMap fun kb =>
    [⟨Rect.unit ![128 * kb.val, 128 * (1 : Fin 2).val] S128x128.size (inbW kb 1), dqTile (sLoad ms hms i s kb 1) (wLoad mw hmw w kb 1)⟩,
     ⟨Rect.unit ![128 * kb.val, 128 * (0 : Fin 2).val] S128x128.size (inbW kb 0), dqTile (sLoad ms hms i s kb 0) (wLoad mw hmw w kb 0)⟩]

/-- The dequantised weights, as they are loaded again. -/
def wAll (md : Memref sig .tc .vmem S2560x256 .bf16) : Vec F S2560x256 .bf16 :=
  md.view.readCov (dqL ms hms mw hmw i s w) (Rect.unit ![0, 0] S2560x256.size inb_S2560x256_S2560x256_0_0).toLoadRect

end Weights

/-- The 128 rows of the activations that step `t` loads. -/
def aLoad (ma : Memref sig .tc .vmem S1024x2560 .bf16) (hma : ma.IsWhole) (x : Vec F S1024x2560 .bf16) (t : Fin 8) : Vec F S128x2560 .bf16 :=
  View.readAt (Elt F) ma.view (Rect.unit (s := S1024x2560) ![128 * t.val, 0] S128x2560.size (inbA t)).toLoadRect (hma.unread x)

/-! ### The stores of a block, `hm t` the gated product of step `t`'s rows -/

section Steps
variable (mb : Memref sig .tc .vmem S128x256 .f32) (hm : Fin 8 → FVec F S128x256 .f32)

/-- The stores into the buffer of the two halves, up to step `n`. -/
def hbL : (n : ℕ) → n ≤ 8 → List (View.Piece (Elt F) S128x256 .f32)
  | 0, _ => []
  | n + 1, h =>
    ⟨Rect.unit ![0, 128 * (1 : Fin 2).val] S128x128.size (inbH 1), shapeCast S128x128 (half 1 (hm ⟨n, h⟩)) shapeCasts_S128x128_S128x128⟩ ::
    ⟨Rect.unit ![0, 128 * (0 : Fin 2).val] S128x128.size (inbH 0), shapeCast S128x128 (half 0 (hm ⟨n, h⟩)) shapeCasts_S128x128_S128x128⟩ ::
    hbL n (Nat.le_of_succ_le h)

/-- Half `k` as step `t` loads it again. -/
def hLoad (t : Fin 8) (k : Fin 2) : Vec F S128x128 .f32 :=
  mb.view.readCov (hbL hm (t.val + 1) t.isLt) (Rect.unit (s := S128x256) ![0, 128 * k.val] S128x128.size (inbH k)).toLoadRect

/-- The stores of the dequantised hidden array. -/
def L5 : List (View.Piece (Elt F) S1024x256 .bf16) :=
  steps.flatMap fun t =>
    [⟨Rect.unit ![128 * t.val, 128 * (1 : Fin 2).val] S128x128.size (inb5 t 1), p5 1 (hm t) (hLoad mb hm t 1)⟩,
     ⟨Rect.unit ![128 * t.val, 128 * (0 : Fin 2).val] S128x128.size (inb5 t 0), p5 0 (hm t) (hLoad mb hm t 0)⟩]

/-- The stores of its codes. -/
def L6 : List (View.Piece (Elt F) S1x1024x256 .fp8e4m3) :=
  steps.flatMap fun t =>
    [⟨Rect.unit ![0, 128 * t.val, 128 * (1 : Fin 2).val] S1x128x128.size (inb6 t 1), p6 1 (hm t) (hLoad mb hm t 1)⟩,
     ⟨Rect.unit ![0, 128 * t.val, 128 * (0 : Fin 2).val] S1x128x128.size (inb6 t 0), p6 0 (hm t) (hLoad mb hm t 0)⟩]

/-- The stores of the transposed codes. -/
def L8 : List (View.Piece (Elt F) S1x256x1024 .fp8e4m3) :=
  steps.flatMap fun t =>
    [⟨Rect.unit ![0, 128 * (1 : Fin 2).val, 128 * t.val] S1x128x128.size (inb8 t 1), p8 (half 1 (hm t))⟩,
     ⟨Rect.unit ![0, 128 * (0 : Fin 2).val, 128 * t.val] S1x128x128.size (inb8 t 0), p8 (half 0 (hm t))⟩]

/-- The stores of the column scales. -/
def L9 : List (View.Piece (Elt F) S1x8x256 .f32) :=
  steps.flatMap fun t =>
    [⟨Rect.unit ![0, t.val, 128 * (1 : Fin 2).val] S1x1x128.size (inb9 t 1), p9 (half 1 (hm t))⟩,
     ⟨Rect.unit ![0, t.val, 128 * (0 : Fin 2).val] S1x1x128.size (inb9 t 0), p9 (half 0 (hm t))⟩]

/-- The stores of the row scales, in the scratch. -/
def LS (i : grid0.Coords) : List (View.Piece (Elt F) S8x54x128 .f32) :=
  steps.map fun t => ⟨Rect.unit (offR i t) S1x2x128.size (inbR i t), pS (hm t)⟩

/-- The row scales of step `t`'s rows, as the last point of a row of blocks loads them from the scratch, which held `hs` before the block. -/
def hsLoad (mh : Memref sig .tc .vmem S8x54x128 .f32) (hmh : mh.IsWhole) (i : grid0.Coords) (hs : Vec F S8x54x128 .f32) (t : Fin 8) :
    Vec F S1x54x128 .f32 :=
  View.readAt (Elt F) mh.view (Rect.unit (s := S8x54x128) ![t.val, 0, 0] S1x54x128.size (inbH7 t)).toLoadRect
    (mh.view.writes (Elt F) (hmh.unread hs) (LS hm i))

/-- The stores of the row scales in the result. -/
def L7 (mh : Memref sig .tc .vmem S8x54x128 .f32) (hmh : mh.IsWhole) (i : grid0.Coords) (hs : Vec F S8x54x128 .f32) :
    List (View.Piece (Elt F) S1x54x1024 .f32) :=
  steps.map fun t => ⟨Rect.unit ![0, 0, 128 * t.val] S1x54x128.size (inb7 t),
    shapeCast S1x54x128 (shapeCast S54x128 (hsLoad hm mh hmh i hs t) shapeCasts_S1x54x128_S54x128) shapeCasts_S54x128_S1x54x128⟩

end Steps

end Cert.KernelIdeal.Up
-- ==== Proof.Up.Loads.lean ====
/- What the body's loads read, over the extended reals: the halves of the gated product as they were stored, the rows of the
   activations, the dequantised weights. -/
module

public import proofs.«01_k».proof.Proof.Up.Lists
public import proofs.«01_k».proof.Proof.Up.TileAt

@[expose] public section

set_option maxRecDepth 16384

noncomputable section

namespace Cert.KernelIdeal.Up

open Cert.KernelIdeal.Gen
open Idealize.ShloMosaic Idealize.ShloMosaic.TcCoe Idealize.SL.Sem Idealize.ShloMosaic.Tactic

/-- Half `k` of the gated product, loaded again, is the half that was stored. -/
theorem hLoad_eq (mb : Memref sig .tc .vmem S128x256 .f32) (hm : Fin 8 → FVec Ideal S128x256 .f32) (t : Fin 8) (k : Fin 2) :
    hLoad mb hm t k = half k (hm t) := by
  unfold hLoad
  rw [hbL]
  match k with
  | 1 => exact (View.readCov_cons_toLoadRect _ _ _ _).trans (shapeCast_self _ _)
  | 0 =>
    rw [View.readCov_cons_of_disjoint]
    · exact (View.readCov_cons_toLoadRect _ _ _ _).trans (shapeCast_self _ _)
    · refine Rect.disjoint_of_axis _ _ (1 : Fin 2) fun a ha b hb => ?_
      show 128 * 1 + 1 * a ≠ 128 * 0 + 1 * b
      have hb' : b < 128 := hb
      omega

/-- Step `t`'s rows of the activations. -/
theorem aLoad_at (ma : Memref sig .tc .vmem S1024x2560 .bf16) (hma : ma.IsWhole) (x : Vec Ideal S1024x2560 .bf16) (t : Fin 8)
    (r : Fin 128) (k : Fin 2560) : aLoad ma hma x t (ix2 r k) = x (ix2 ⟨128 * t.val + r.val, by omega⟩ k) := by
  unfold aLoad
  rw [View.readAt_apply, hma.read_unread]
  refine congrArg x (funext fun a => Fin.ext ?_)
  match a with
  | ⟨0, _⟩ => show 128 * t.val + 1 * r.val = 128 * t.val + r.val; omega
  | ⟨1, _⟩ => show 0 + 1 * k.val = k.val; omega

section Weights
variable (ms : Memref sig .tc .smem S20x54 .f32) (hms : ms.IsWhole) (mw : Memref sig .tc .vmem S2560x256 .fp8e4m3) (hmw : mw.IsWhole)
variable (i : grid0.Coords) (s : Vec Ideal S20x54 .f32) (w : Vec Ideal S2560x256 .fp8e4m3)

/-- The scale of tile `kb`, `nb` of the column block. -/
theorem sLoad_eq (kb : Fin 20) (nb : Fin 2) (h : 2 * (i 1).val + nb.val < 54) :
    sLoad ms hms i s kb nb = s (ix2 kb ⟨2 * (i 1).val + nb.val, h⟩) := by
  unfold sLoad
  rw [View.readAt_apply, hms.read_unread]
  refine congrArg s (funext fun a => Fin.ext ?_)
  match a with
  | ⟨0, _⟩ => show kb.val + 1 * 0 = kb.val; omega
  | ⟨1, _⟩ => show offS i kb nb 1 + 1 * 0 = 2 * (i 1).val + nb.val; rw [offS_1]; omega

/-- The codes of tile `kb`, `nb`. -/
theorem wLoad_at (kb : Fin 20) (nb : Fin 2) (r c : Fin 128) :
    wLoad mw hmw w kb nb (ix2 r c) = w (ix2 ⟨128 * kb.val + r.val, by omega⟩ ⟨128 * nb.val + c.val, by omega⟩) := by
  unfold wLoad
  rw [View.readAt_apply, hmw.read_unread]
  refine congrArg w (funext fun a => Fin.ext ?_)
  match a with
  | ⟨0, _⟩ => show 128 * kb.val + 1 * r.val = 128 * kb.val + r.val; omega
  | ⟨1, _⟩ => show 128 * nb.val + 1 * c.val = 128 * nb.val + c.val; omega

/-- A store of the dequantised weights is that of some tile. -/
theorem mem_dqL (p : View.Piece (Elt Ideal) S2560x256 .bf16) (hp : p ∈ dqL ms hms mw hmw i s w) :
    ∃ (kb : Fin 20) (nb : Fin 2), p = ⟨Rect.unit ![128 * kb.val, 128 * nb.val] S128x128.size (inbW kb nb),
      dqTile (sLoad ms hms i s kb nb) (wLoad mw hmw w kb nb)⟩ := by
  obtain ⟨kb, -, hp⟩ := List.mem_flatMap.mp hp
  rcases List.mem_cons.mp hp with rfl | hp
  · exact ⟨kb, 1, rfl⟩
  · exact ⟨kb, 0, List.mem_singleton.mp hp⟩

/-- Every tile is stored. -/
theorem dqL_mem (kb : Fin 20) (nb : Fin 2) :
    (⟨Rect.unit ![128 * kb.val, 128 * nb.val] S128x128.size (inbW kb nb), dqTile (sLoad ms hms i s kb nb) (wLoad mw hmw w kb nb)⟩
      : View.Piece (Elt Ideal) S2560x256 .bf16) ∈ dqL ms hms mw hmw i s w := by
  refine List.mem_flatMap.mpr ⟨kb, (show ∀ kb, kb ∈ tiles by decide) kb, ?_⟩
  match nb with
  | 1 => exact List.mem_cons_self
  | 0 => exact List.mem_cons_of_mem _ List.mem_cons_self

/-- The dequantised weights: every code times the scale of its tile. -/
theorem wAll_at (md : Memref sig .tc .vmem S2560x256 .bf16) (k : Fin 2560) (c : Fin 256) (h : 2 * (i 1).val + c.val / 128 < 54) :
    wAll ms hms mw hmw i s w md (ix2 k c) = w (ix2 k c) * s (ix2 ⟨k.val / 128, by omega⟩ ⟨2 * (i 1).val + c.val / 128, h⟩) := by
  have hn : (i 1).val < 27 := (i 1).isLt
  unfold wAll
  rw [View.readCov_eq_canon']
  have hi : (Rect.unit (s := S2560x256) ![0, 0] S2560x256.size inb_S2560x256_S2560x256_0_0).toLoadRect.idx (ix2 k c) = ix2 k c := by
    refine funext fun a => Fin.ext ?_
    match a with
    | ⟨0, _⟩ => show 0 + 1 * k.val = k.val; omega
    | ⟨1, _⟩ => show 0 + 1 * c.val = c.val; omega
  show View.canon _ ((Rect.unit (s := S2560x256) ![0, 0] S2560x256.size inb_S2560x256_S2560x256_0_0).toLoadRect.idx (ix2 k c)) = _
  rw [hi]
  refine View.canon_apply_of_pieces (Val := Elt Ideal) (e := .bf16) (fun y : S2560x256.Idx => w y * s (ix2 ⟨(y 0).val / 128, by have h0 : (y 0).val < 2560 := (y 0).isLt; omega⟩
    ⟨2 * (i 1).val + (y 1).val / 128, by have h1 : (y 1).val < 256 := (y 1).isLt; omega⟩)) _ (fun p hp x => ?_) (ix2 k c) ?_
  · obtain ⟨kb, nb, rfl⟩ := mem_dqL ms hms mw hmw i s w p hp
    obtain ⟨r, l, rfl⟩ : ∃ r l : Fin 128, x = ix2 r l := ⟨x 0, x 1, eq_ix2 _⟩
    have he : (Rect.unit (s := S2560x256) ![128 * kb.val, 128 * nb.val] S128x128.size (inbW kb nb)).emb (ix2 r l)
        = ix2 ⟨128 * kb.val + r.val, by omega⟩ ⟨128 * nb.val + l.val, by omega⟩ := by
      refine funext fun a => Fin.ext ?_
      match a with
      | ⟨0, _⟩ => show 128 * kb.val + 1 * r.val = 128 * kb.val + r.val; omega
      | ⟨1, _⟩ => show 128 * nb.val + 1 * l.val = 128 * nb.val + l.val; omega
    show dqTile (sLoad ms hms i s kb nb) (wLoad mw hmw w kb nb) (ix2 r l) = _
    rw [dqTile_at, wLoad_at, sLoad_eq ms hms i s kb nb (by omega)]
    show _ = w ((Rect.unit (s := S2560x256) ![128 * kb.val, 128 * nb.val] S128x128.size (inbW kb nb)).emb (ix2 r l)) * _
    rw [he]
    refine congrArg₂ _ rfl (congrArg s (congrArg₂ _ (Fin.ext ?_) (Fin.ext ?_)))
    · show kb.val = (128 * kb.val + r.val) / 128; omega
    · show 2 * (i 1).val + nb.val = 2 * (i 1).val + (128 * nb.val + l.val) / 128; omega
  · refine ⟨_, dqL_mem ms hms mw hmw i s w ⟨k.val / 128, by omega⟩ ⟨c.val / 128, by omega⟩, ?_⟩
    rw [Rect.mem_set_unit]
    intro a
    match a with
    | ⟨0, _⟩ => show 128 * (k.val / 128) ≤ k.val ∧ k.val < 128 * (k.val / 128) + 128; omega
    | ⟨1, _⟩ => show 128 * (c.val / 128) ≤ c.val ∧ c.val < 128 * (c.val / 128) + 128; omega

end Weights

end Cert.KernelIdeal.Up
-- ==== Proof.Up.Block.lean ====
/- What one block's stores leave in each buffer, over the extended reals: the block of the specification's array. -/
module

public import proofs.«01_k».proof.Proof.Up.Loads
public import proofs.«01_k».proof.Proof.Up.Spec

@[expose] public section

set_option maxRecDepth 16384

noncomputable section

namespace Cert.KernelIdeal.Up

open Cert.KernelIdeal.Gen
open Idealize.ShloMosaic Idealize.ShloMosaic.TcCoe Idealize.SL.Sem Idealize.ShloMosaic.Tactic

/-! ### The blocks of the specification's arrays -/

section Blocks
variable (H : Fin 12288 → Fin 6912 → EReal) (b : Fin 12) (n : Fin 27)

/-- Column block `n` of batch `b` of the first result. -/
def G5 : Vec Ideal S1024x256 .bf16 := fun y =>
  res0 H ⟨1024 * b.val + (y 0).val, by have h : (y 0).val < 1024 := (y 0).isLt; omega⟩ ⟨256 * n.val + (y 1).val, by have h : (y 1).val < 256 := (y 1).isLt; omega⟩
/-- Column block `n` of batch `b` of the second result. -/
def G6 : Vec Ideal S1x1024x256 .fp8e4m3 := fun y =>
  res1 H b (y 1) ⟨256 * n.val + (y 2).val, by have h : (y 2).val < 256 := (y 2).isLt; omega⟩
/-- Batch `b` of the third result. -/
def G7 : Vec Ideal S1x54x1024 .f32 := fun y => res2 H b (y 1) (y 2)
/-- Column block `n` of batch `b` of the fourth result. -/
def G8 : Vec Ideal S1x256x1024 .fp8e4m3 := fun y =>
  res3 H b ⟨256 * n.val + (y 1).val, by have h : (y 1).val < 256 := (y 1).isLt; omega⟩ (y 2)
/-- Column block `n` of batch `b` of the fifth result. -/
def G9 : Vec Ideal S1x8x256 .f32 := fun y =>
  res4 H b (y 1) ⟨256 * n.val + (y 2).val, by have h : (y 2).val < 256 := (y 2).isLt; omega⟩

/-- The scratch holds batch `b`'s row scales of the first `m` groups of columns. -/
def Scales (m : ℕ) (hs : Vec Ideal S8x54x128 .f32) : Prop :=
  ∀ (t : Fin 8) (kb : Fin 54) (l : Fin 128), kb.val < m → hs (ix3 t kb l) = res2 H b kb ⟨128 * t.val + l.val, by omega⟩

/-- The steps' gated products are block `n` of batch `b` of the array `H`. -/
def IsHid (hm : Fin 8 → FVec Ideal S128x256 .f32) : Prop :=
  ∀ (t : Fin 8) (r : Fin 128) (c : Fin 256), hm t (ix2 r c) = H ⟨1024 * b.val + (128 * t.val + r.val), by omega⟩ ⟨256 * n.val + c.val, by omega⟩

end Blocks

section Stores
variable {H : Fin 12288 → Fin 6912 → EReal} {b : Fin 12} {n : Fin 27} {hm : Fin 8 → FVec Ideal S128x256 .f32} (hH : IsHid H b n hm)

include hH in
theorem half_hid (t : Fin 8) (k : Fin 2) (r c : Fin 128) :
    half k (hm t) (ix2 r c) = H ⟨1024 * b.val + (128 * t.val + r.val), by omega⟩ ⟨256 * n.val + (128 * k.val + c.val), by omega⟩ := by
  rw [half_at, hH]

include hH in
/-- A row's largest magnitude in one half of the block. -/
theorem row_hid (t : Fin 8) (k : Fin 2) (r : Fin 128) :
    rowT (hm t) (ix2 r ⟨k.val, by omega⟩) = rowMx H ⟨1024 * b.val + (128 * t.val + r.val), by omega⟩ ⟨2 * n.val + k.val, by omega⟩ := by
  rw [rowT_at]
  unfold rowMx
  congr 1
  funext j
  rw [hH]
  congr 1
  exact Fin.ext (by dsimp only; omega)

include hH in
/-- A column's largest magnitude in one step's rows. -/
theorem col_hid (t : Fin 8) (k : Fin 2) (c : Fin 128) :
    colT (half k (hm t)) (ix2 0 c) = colMx H b t ⟨256 * n.val + (128 * k.val + c.val), by omega⟩ := by
  rw [colT_at]
  unfold colMx
  congr 1
  funext r
  rw [half_hid hH]

theorem group_eq (n : Fin 27) (k : Fin 2) (c : Fin 128) (h) :
    (⟨(256 * n.val + (128 * k.val + c.val)) / 128, h⟩ : Fin 54) = ⟨2 * n.val + k.val, by omega⟩ := Fin.ext (by dsimp only; omega)

variable (mb : Memref sig .tc .vmem S128x256 .f32)

include hH in
theorem p5_hid (t : Fin 8) (k : Fin 2) (r c : Fin 128) :
    p5 k (hm t) (hLoad mb hm t k) (ix2 r c)
      = res0 H ⟨1024 * b.val + (128 * t.val + r.val), by omega⟩ ⟨256 * n.val + (128 * k.val + c.val), by omega⟩ := by
  rw [hLoad_eq, p5_at, row_hid hH, half_hid hH, scaleS_eq, invS_eq]
  unfold res0 rowCode
  rw [group_eq]

include hH in
theorem p6_hid (t : Fin 8) (k : Fin 2) (r c : Fin 128) :
    p6 k (hm t) (hLoad mb hm t k) (ix3 0 r c)
      = res1 H b ⟨128 * t.val + r.val, by omega⟩ ⟨256 * n.val + (128 * k.val + c.val), by omega⟩ := by
  rw [hLoad_eq, p6_at, row_hid hH, half_hid hH, invS_eq]
  unfold res1 rowCode
  rw [group_eq]

include hH in
theorem p8_hid (t : Fin 8) (k : Fin 2) (r c : Fin 128) :
    p8 (half k (hm t)) (ix3 0 c r)
      = res3 H b ⟨256 * n.val + (128 * k.val + c.val), by omega⟩ ⟨128 * t.val + r.val, by omega⟩ := by
  rw [p8_at, col_hid hH, half_hid hH, invS_eq]
  unfold res3
  rw [show (⟨(128 * t.val + r.val) / 128, by omega⟩ : Fin 8) = t from Fin.ext (by dsimp only; omega)]

include hH in
theorem p9_hid (t : Fin 8) (k : Fin 2) (c : Fin 128) :
    p9 (half k (hm t)) (ix3 0 0 c) = res4 H b t ⟨256 * n.val + (128 * k.val + c.val), by omega⟩ := by
  rw [p9_at, col_hid hH, scaleS_eq]
  rfl

include hH in
theorem pS_hid (t : Fin 8) (k : Fin 2) (r : Fin 128) :
    pS (hm t) (ix3 0 k r) = res2 H b ⟨2 * n.val + k.val, by omega⟩ ⟨128 * t.val + r.val, by omega⟩ := by
  rw [pS_at, row_hid hH, scaleS_eq]
  rfl

theorem mem_steps (t : Fin 8) : t ∈ steps := (show ∀ t, t ∈ steps by decide) t

/-- Membership in a list of two pieces per step. -/
theorem mem_two {α : Type} (f : Fin 8 → Fin 2 → α) (p : α) :
    p ∈ (steps.flatMap fun t => [f t 1, f t 0]) ↔ ∃ t k, p = f t k := by
  constructor
  · intro hp
    obtain ⟨t, -, hp⟩ := List.mem_flatMap.mp hp
    rcases List.mem_cons.mp hp with rfl | hp
    · exact ⟨t, 1, rfl⟩
    · exact ⟨t, 0, List.mem_singleton.mp hp⟩
  · rintro ⟨t, k, rfl⟩
    refine List.mem_flatMap.mpr ⟨t, mem_steps t, ?_⟩
    match k with
    | 1 => exact List.mem_cons_self
    | 0 => exact List.mem_cons_of_mem _ List.mem_cons_self

theorem mem_L5 (p : View.Piece (Elt Ideal) S1024x256 .bf16) :
    p ∈ L5 mb hm ↔ ∃ (t : Fin 8) (k : Fin 2), p = ⟨Rect.unit ![128 * t.val, 128 * k.val] S128x128.size (inb5 t k), p5 k (hm t) (hLoad mb hm t k)⟩ :=
  mem_two (fun t k => (⟨Rect.unit ![128 * t.val, 128 * k.val] S128x128.size (inb5 t k), p5 k (hm t) (hLoad mb hm t k)⟩ : View.Piece (Elt Ideal) S1024x256 .bf16)) p

theorem mem_L6 (p : View.Piece (Elt Ideal) S1x1024x256 .fp8e4m3) :
    p ∈ L6 mb hm ↔ ∃ (t : Fin 8) (k : Fin 2), p = ⟨Rect.unit ![0, 128 * t.val, 128 * k.val] S1x128x128.size (inb6 t k), p6 k (hm t) (hLoad mb hm t k)⟩ :=
  mem_two (fun t k => (⟨Rect.unit ![0, 128 * t.val, 128 * k.val] S1x128x128.size (inb6 t k), p6 k (hm t) (hLoad mb hm t k)⟩ : View.Piece (Elt Ideal) S1x1024x256 .fp8e4m3)) p

theorem mem_L8 (p : View.Piece (Elt Ideal) S1x256x1024 .fp8e4m3) :
    p ∈ L8 hm ↔ ∃ (t : Fin 8) (k : Fin 2), p = ⟨Rect.unit ![0, 128 * k.val, 128 * t.val] S1x128x128.size (inb8 t k), p8 (half k (hm t))⟩ :=
  mem_two (fun t k => (⟨Rect.unit ![0, 128 * k.val, 128 * t.val] S1x128x128.size (inb8 t k), p8 (half k (hm t))⟩ : View.Piece (Elt Ideal) S1x256x1024 .fp8e4m3)) p

theorem mem_L9 (p : View.Piece (Elt Ideal) S1x8x256 .f32) :
    p ∈ L9 hm ↔ ∃ (t : Fin 8) (k : Fin 2), p = ⟨Rect.unit ![0, t.val, 128 * k.val] S1x1x128.size (inb9 t k), p9 (half k (hm t))⟩ :=
  mem_two (fun t k => (⟨Rect.unit ![0, t.val, 128 * k.val] S1x1x128.size (inb9 t k), p9 (half k (hm t))⟩ : View.Piece (Elt Ideal) S1x8x256 .f32)) p

include hH in
/-- The stores of the first result leave its block. -/
theorem read_L5 (m : Memref sig .tc .vmem S1024x256 .bf16) (f : m.view.ty.Contents (Elt Ideal)) :
    m.view.read (Elt Ideal) (m.view.writes (Elt Ideal) f (L5 mb hm)) = G5 H b n := by
  funext y
  refine View.read_writes_apply_of_pieces _ _ (G5 H b n) _ (fun p hp x => ?_) y ?_
  · obtain ⟨t, k, rfl⟩ := (mem_L5 mb p).mp hp
    obtain ⟨r, l, rfl⟩ : ∃ r l : Fin 128, x = ix2 r l := ⟨x 0, x 1, eq_ix2 _⟩
    refine (p5_hid hH mb t k r l).trans ?_
    unfold G5
    refine congrArg₂ _ (Fin.ext ?_) (Fin.ext ?_)
    · show 1024 * b.val + (128 * t.val + r.val) = 1024 * b.val + (128 * t.val + 1 * r.val); omega
    · show 256 * n.val + (128 * k.val + l.val) = 256 * n.val + (128 * k.val + 1 * l.val); omega
  · have h0 : (y 0).val < 1024 := (y 0).isLt
    have h1 : (y 1).val < 256 := (y 1).isLt
    refine ⟨_, (mem_L5 mb _).mpr ⟨⟨(y 0).val / 128, by omega⟩, ⟨(y 1).val / 128, by omega⟩, rfl⟩, ?_⟩
    rw [Rect.mem_set_unit]
    intro a
    match a with
    | ⟨0, _⟩ => show 128 * ((y 0).val / 128) ≤ (y 0).val ∧ (y 0).val < 128 * ((y 0).val / 128) + 128; omega
    | ⟨1, _⟩ => show 128 * ((y 1).val / 128) ≤ (y 1).val ∧ (y 1).val < 128 * ((y 1).val / 128) + 128; omega

include hH in
/-- The stores of the second result leave its block. -/
theorem read_L6 (m : Memref sig .tc .vmem S1x1024x256 .fp8e4m3) (f : m.view.ty.Contents (Elt Ideal)) :
    m.view.read (Elt Ideal) (m.view.writes (Elt Ideal) f (L6 mb hm)) = G6 H b n := by
  funext y
  refine View.read_writes_apply_of_pieces _ _ (G6 H b n) _ (fun p hp x => ?_) y ?_
  · obtain ⟨t, k, rfl⟩ := (mem_L6 mb p).mp hp
    obtain ⟨z, r, l, rfl⟩ : ∃ (z : Fin 1) (r l : Fin 128), x = ix3 z r l := ⟨x 0, x 1, x 2, eq_ix3 _⟩
    obtain rfl : z = 0 := Subsingleton.elim _ _
    refine (p6_hid hH mb t k r l).trans ?_
    unfold G6
    refine congrArg₂ _ (Fin.ext ?_) (Fin.ext ?_)
    · show 128 * t.val + r.val = 128 * t.val + 1 * r.val; omega
    · show 256 * n.val + (128 * k.val + l.val) = 256 * n.val + (128 * k.val + 1 * l.val); omega
  · have h0 : (y 0).val < 1 := (y 0).isLt
    have h1 : (y 1).val < 1024 := (y 1).isLt
    have h2 : (y 2).val < 256 := (y 2).isLt
    refine ⟨_, (mem_L6 mb _).mpr ⟨⟨(y 1).val / 128, by omega⟩, ⟨(y 2).val / 128, by omega⟩, rfl⟩, ?_⟩
    rw [Rect.mem_set_unit]
    intro a
    match a with
    | ⟨0, _⟩ => show 0 ≤ (y 0).val ∧ (y 0).val < 0 + 1; omega
    | ⟨1, _⟩ => show 128 * ((y 1).val / 128) ≤ (y 1).val ∧ (y 1).val < 128 * ((y 1).val / 128) + 128; omega
    | ⟨2, _⟩ => show 128 * ((y 2).val / 128) ≤ (y 2).val ∧ (y 2).val < 128 * ((y 2).val / 128) + 128; omega

include hH in
/-- The stores of the fourth result leave its block. -/
theorem read_L8 (m : Memref sig .tc .vmem S1x256x1024 .fp8e4m3) (f : m.view.ty.Contents (Elt Ideal)) :
    m.view.read (Elt Ideal) (m.view.writes (Elt Ideal) f (L8 hm)) = G8 H b n := by
  funext y
  refine View.read_writes_apply_of_pieces _ _ (G8 H b n) _ (fun p hp x => ?_) y ?_
  · obtain ⟨t, k, rfl⟩ := (mem_L8 p).mp hp
    obtain ⟨z, l, r, rfl⟩ : ∃ (z : Fin 1) (l r : Fin 128), x = ix3 z l r := ⟨x 0, x 1, x 2, eq_ix3 _⟩
    obtain rfl : z = 0 := Subsingleton.elim _ _
    refine (p8_hid hH t k r l).trans ?_
    unfold G8
    refine congrArg₂ _ (Fin.ext ?_) (Fin.ext ?_)
    · show 256 * n.val + (128 * k.val + l.val) = 256 * n.val + (128 * k.val + 1 * l.val); omega
    · show 128 * t.val + r.val = 128 * t.val + 1 * r.val; omega
  · have h0 : (y 0).val < 1 := (y 0).isLt
    have h1 : (y 1).val < 256 := (y 1).isLt
    have h2 : (y 2).val < 1024 := (y 2).isLt
    refine ⟨_, (mem_L8 _).mpr ⟨⟨(y 2).val / 128, by omega⟩, ⟨(y 1).val / 128, by omega⟩, rfl⟩, ?_⟩
    rw [Rect.mem_set_unit]
    intro a
    match a with
    | ⟨0, _⟩ => show 0 ≤ (y 0).val ∧ (y 0).val < 0 + 1; omega
    | ⟨1, _⟩ => show 128 * ((y 1).val / 128) ≤ (y 1).val ∧ (y 1).val < 128 * ((y 1).val / 128) + 128; omega
    | ⟨2, _⟩ => show 128 * ((y 2).val / 128) ≤ (y 2).val ∧ (y 2).val < 128 * ((y 2).val / 128) + 128; omega

include hH in
/-- The stores of the fifth result leave its block. -/
theorem read_L9 (m : Memref sig .tc .vmem S1x8x256 .f32) (f : m.view.ty.Contents (Elt Ideal)) :
    m.view.read (Elt Ideal) (m.view.writes (Elt Ideal) f (L9 hm)) = G9 H b n := by
  funext y
  refine View.read_writes_apply_of_pieces _ _ (G9 H b n) _ (fun p hp x => ?_) y ?_
  · obtain ⟨t, k, rfl⟩ := (mem_L9 p).mp hp
    obtain ⟨z, z', l, rfl⟩ : ∃ (z z' : Fin 1) (l : Fin 128), x = ix3 z z' l := ⟨x 0, x 1, x 2, eq_ix3 _⟩
    obtain rfl : z = 0 := Subsingleton.elim _ _
    obtain rfl : z' = 0 := Subsingleton.elim _ _
    have e := p9_hid hH t k l
    generalize p9 (half k (hm t)) = w at e ⊢
    refine e.trans ?_
    unfold G9
    refine congrArg₂ _ (Fin.ext ?_) (Fin.ext ?_)
    · show t.val = t.val + 1 * 0; omega
    · show 256 * n.val + (128 * k.val + l.val) = 256 * n.val + (128 * k.val + 1 * l.val); omega
  · have h0 : (y 0).val < 1 := (y 0).isLt
    have h1 : (y 1).val < 8 := (y 1).isLt
    have h2 : (y 2).val < 256 := (y 2).isLt
    refine ⟨_, (mem_L9 _).mpr ⟨⟨(y 1).val, by omega⟩, ⟨(y 2).val / 128, by omega⟩, rfl⟩, ?_⟩
    rw [Rect.mem_set_unit]
    intro a
    match a with
    | ⟨0, _⟩ => show 0 ≤ (y 0).val ∧ (y 0).val < 0 + 1; omega
    | ⟨1, _⟩ => show (y 1).val ≤ (y 1).val ∧ (y 1).val < (y 1).val + 1; omega
    | ⟨2, _⟩ => show 128 * ((y 2).val / 128) ≤ (y 2).val ∧ (y 2).val < 128 * ((y 2).val / 128) + 128; omega

variable (m : Memref sig .tc .vmem S8x54x128 .f32) (hmh : m.IsWhole) (i : grid0.Coords) (hi : (i 1).val = n.val)

include hH hi in
/-- The stores into the scratch add the block's two groups of columns. -/
theorem read_LS (hs : Vec Ideal S8x54x128 .f32) (h : Scales H b (2 * n.val) hs) :
    Scales H b (2 * n.val + 2) (m.view.read (Elt Ideal) (m.view.writes (Elt Ideal) (hmh.unread hs) (LS hm i))) := by
  intro t kb l hkb
  by_cases hlt : kb.val < 2 * n.val
  · rw [View.read_writes_apply_of_forall_not_mem, hmh.read_unread]
    · exact h t kb l hlt
    · intro p hp
      obtain ⟨t', -, rfl⟩ := List.mem_map.mp hp
      rw [Rect.mem_set_unit]
      intro hall
      have h1 : offR i t' 1 ≤ kb.val := (hall 1).1
      rw [offR_1] at h1
      omega
  · refine (View.read_writes_apply_of_pieces _ _ (fun y : S8x54x128.Idx => (res2 H b (y 1) ⟨128 * (y 0).val + (y 2).val, by
      have h0 : (y 0).val < 8 := (y 0).isLt
      have h2 : (y 2).val < 128 := (y 2).isLt
      omega⟩ : Elt Ideal .f32)) _ (fun p hp x => ?_) (ix3 t kb l) ?_).trans rfl
    · obtain ⟨t', -, rfl⟩ := List.mem_map.mp hp
      obtain ⟨z, k, r, rfl⟩ : ∃ (z : Fin 1) (k : Fin 2) (r : Fin 128), x = ix3 z k r := ⟨x 0, x 1, x 2, eq_ix3 _⟩
      obtain rfl : z = 0 := Subsingleton.elim _ _
      have e := pS_hid hH t' k r
      generalize pS (hm t') = w at e ⊢
      refine e.trans ?_
      refine congrArg₂ _ (Fin.ext ?_) (Fin.ext ?_)
      · show 2 * n.val + k.val = offR i t' 1 + 1 * k.val; rw [offR_1]; omega
      · show 128 * t'.val + r.val = 128 * (t'.val + 1 * 0) + (0 + 1 * r.val); omega
    · refine ⟨_, List.mem_map.mpr ⟨t, mem_steps t, rfl⟩, ?_⟩
      rw [Rect.mem_set_unit]
      intro a
      match a with
      | ⟨0, _⟩ => show t.val ≤ t.val ∧ t.val < t.val + 1; omega
      | ⟨1, _⟩ => show offR i t 1 ≤ kb.val ∧ kb.val < offR i t 1 + 2; rw [offR_1]; omega
      | ⟨2, _⟩ => show 0 ≤ l.val ∧ l.val < 0 + 128; omega

include hH hi in
/-- At a row's last block the stores of the third result leave the batch's row scales. -/
theorem read_L7 (hn : n.val = 26) (hs : Vec Ideal S8x54x128 .f32) (h : Scales H b (2 * n.val) hs)
    (m7 : Memref sig .tc .vmem S1x54x1024 .f32) (f : m7.view.ty.Contents (Elt Ideal)) :
    m7.view.read (Elt Ideal) (m7.view.writes (Elt Ideal) f (L7 hm m hmh i hs)) = G7 H b := by
  have hS := read_LS hH m hmh i hi hs h
  have hL : ∀ (t : Fin 8) (kb : Fin 54) (l : Fin 128), hsLoad hm m hmh i hs t (ix3 0 kb l) = res2 H b kb ⟨128 * t.val + l.val, by omega⟩ := by
    intro t kb l
    unfold hsLoad
    rw [View.readAt_apply]
    refine Eq.trans (congrArg _ (?_ : _ = ix3 t kb l)) (hS t kb l (by omega))
    refine funext fun a => Fin.ext ?_
    match a with
    | ⟨0, _⟩ => show t.val + 1 * 0 = t.val; omega
    | ⟨1, _⟩ => show 0 + 1 * kb.val = kb.val; omega
    | ⟨2, _⟩ => show 0 + 1 * l.val = l.val; omega
  funext y
  refine View.read_writes_apply_of_pieces _ _ (G7 H b) _ (fun p hp x => ?_) y ?_
  · obtain ⟨t, -, rfl⟩ := List.mem_map.mp hp
    obtain ⟨z, kb, l, rfl⟩ : ∃ (z : Fin 1) (kb : Fin 54) (l : Fin 128), x = ix3 z kb l := ⟨x 0, x 1, x 2, eq_ix3 _⟩
    obtain rfl : z = 0 := Subsingleton.elim _ _
    have e : shapeCast S1x54x128 (shapeCast S54x128 (hsLoad hm m hmh i hs t) shapeCasts_S1x54x128_S54x128) shapeCasts_S54x128_S1x54x128 (ix3 0 kb l)
        = res2 H b kb ⟨128 * t.val + l.val, by omega⟩ := by
      rw [shapeCast_shapeCast, hL]
    generalize shapeCast S1x54x128 (shapeCast S54x128 (hsLoad hm m hmh i hs t) shapeCasts_S1x54x128_S54x128) shapeCasts_S54x128_S1x54x128 = w at e ⊢
    refine e.trans ?_
    unfold G7
    refine congrArg₂ _ (Fin.ext ?_) (Fin.ext ?_)
    · show kb.val = 0 + 1 * kb.val; omega
    · show 128 * t.val + l.val = 128 * t.val + 1 * l.val; omega
  · have h0 : (y 0).val < 1 := (y 0).isLt
    have h1 : (y 1).val < 54 := (y 1).isLt
    have h2 : (y 2).val < 1024 := (y 2).isLt
    refine ⟨_, List.mem_map.mpr ⟨⟨(y 2).val / 128, by omega⟩, mem_steps _, rfl⟩, ?_⟩
    rw [Rect.mem_set_unit]
    intro a
    match a with
    | ⟨0, _⟩ => show 0 ≤ (y 0).val ∧ (y 0).val < 0 + 1; omega
    | ⟨1, _⟩ => show 0 ≤ (y 1).val ∧ (y 1).val < 0 + 54; omega
    | ⟨2, _⟩ => show 128 * ((y 2).val / 128) ≤ (y 2).val ∧ (y 2).val < 128 * ((y 2).val / 128) + 128; omega

end Stores

/-! ### The steps' gated products -/

section Hid
variable (ms : Memref sig .tc .smem S20x54 .f32) (hms : ms.IsWhole) (mu : Memref sig .tc .smem S20x54 .f32) (hmu : mu.IsWhole)
variable (ma : Memref sig .tc .vmem S1024x2560 .bf16) (hma : ma.IsWhole)
variable (mw : Memref sig .tc .vmem S2560x256 .fp8e4m3) (hmw : mw.IsWhole) (mv : Memref sig .tc .vmem S2560x256 .fp8e4m3) (hmv : mv.IsWhole)
variable (md me : Memref sig .tc .vmem S2560x256 .bf16) (i : grid0.Coords)
variable (x0 x1 : Vec Ideal S20x54 .f32) (x2 : Vec Ideal S1024x2560 .bf16) (x3 x4 : Vec Ideal S2560x256 .fp8e4m3)

/-- From the blocks of the arguments the steps' gated products are the block of the gated product. -/
theorem isHid (b : Fin 12) (n : Fin 27) (hi : (i 1).val = n.val)
    (A : Fin 12288 → Fin 2560 → EReal) (Wg : Fin 2560 → Fin 6912 → EReal) (Sg : Fin 20 → Fin 54 → EReal)
    (Wu : Fin 2560 → Fin 6912 → EReal) (Su : Fin 20 → Fin 54 → EReal)
    (h0 : ∀ p q, x0 (ix2 p q) = Sg p q) (h1 : ∀ p q, x1 (ix2 p q) = Su p q)
    (h2 : ∀ (r : Fin 1024) (k : Fin 2560), x2 (ix2 r k) = A ⟨1024 * b.val + r.val, by omega⟩ k)
    (h3 : ∀ (k : Fin 2560) (c : Fin 256), x3 (ix2 k c) = Wg k ⟨256 * n.val + c.val, by omega⟩)
    (h4 : ∀ (k : Fin 2560) (c : Fin 256), x4 (ix2 k c) = Wu k ⟨256 * n.val + c.val, by omega⟩) :
    IsHid (hid A Wg Sg Wu Su) b n
      (fun t => hmTile (aLoad ma hma x2 t) (wAll ms hms mw hmw i x0 x3 md) (wAll mu hmu mv hmv i x1 x4 me)) := by
  intro t r c
  have hn : n.val < 27 := n.isLt
  have hc : (⟨2 * (i 1).val + c.val / 128, by omega⟩ : Fin 54) = ⟨(256 * n.val + c.val) / 128, by omega⟩ := Fin.ext (by dsimp only; omega)
  show hmTile _ _ _ (ix2 r c) = _
  rw [hmTile_at]
  unfold hid
  congr 1
  · refine Finset.sum_congr rfl fun k _ => ?_
    rw [aLoad_at, wAll_at ms hms mw hmw i x0 x3 md k c (by omega), h0, h2, h3, hc]
  · refine Finset.sum_congr rfl fun k _ => ?_
    rw [aLoad_at, wAll_at mu hmu mv hmv i x1 x4 me k c (by omega), h1, h2, h4, hc]

end Hid

end Cert.KernelIdeal.Up
-- ==== Proof.Up.Inputs.lean ====
/- What the windows of the arguments hold at one grid point, entry by entry, and the gated product of the arguments. -/
module

public import proofs.«01_k».proof.Proof.Up.Block
public import Idealize.ShloMosaic.Lib.Pipeline.ValueKit

@[expose] public section

set_option maxRecDepth 16384

noncomputable section

namespace Cert.KernelIdeal.Up

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The batch of a grid point. -/
def bOf (t : ℕ) : Fin 12 := ⟨t / 27 % 12, by omega⟩
/-- The column block of a grid point. -/
def nOf (t : ℕ) : Fin 27 := ⟨t % 27, by omega⟩

theorem coords_0 (t : Fin cfg0.N) : (grid0.coords t 0).val = (bOf t.val).val :=
  (Pipeline.Grid.coords_val t 0 (by decide) rfl : (grid0.coords t 0).val = t.val / 27 % 12)
theorem coords_1 (t : Fin cfg0.N) : (grid0.coords t 1).val = (nOf t.val).val := by
  have h : (grid0.coords t 1).val = t.val / 1 % 27 := Pipeline.Grid.coords_val t 1 (by decide) rfl
  rw [h, Nat.div_one]; rfl

/-! The windows' block indices. -/

theorem idx_0 : ∀ t : Fin cfg0.N, win0_0.index t = ![0, 0] :=
  (by decide +kernel : ∀ t : Fin grid0.N, win0_0.index t = ![0, 0])
theorem idx_1 : ∀ t : Fin cfg0.N, win0_1.index t = ![0, 0] :=
  (by decide +kernel : ∀ t : Fin grid0.N, win0_1.index t = ![0, 0])
theorem idx_2 : ∀ t : Fin cfg0.N, win0_2.index t = ![(bOf t.val).val, 0] :=
  (by decide +kernel : ∀ t : Fin grid0.N, win0_2.index t = ![(bOf t.val).val, 0])
theorem idx_3 : ∀ t : Fin cfg0.N, win0_3.index t = ![0, (nOf t.val).val] :=
  (by decide +kernel : ∀ t : Fin grid0.N, win0_3.index t = ![0, (nOf t.val).val])
theorem idx_4 : ∀ t : Fin cfg0.N, win0_4.index t = ![0, (nOf t.val).val] :=
  (by decide +kernel : ∀ t : Fin grid0.N, win0_4.index t = ![0, (nOf t.val).val])
theorem idx_5 : ∀ t : Fin cfg0.N, win0_5.index t = ![(bOf t.val).val, (nOf t.val).val] :=
  (by decide +kernel : ∀ t : Fin grid0.N, win0_5.index t = ![(bOf t.val).val, (nOf t.val).val])
theorem idx_6 : ∀ t : Fin cfg0.N, win0_6.index t = ![(bOf t.val).val, 0, (nOf t.val).val] :=
  (by decide +kernel : ∀ t : Fin grid0.N, win0_6.index t = ![(bOf t.val).val, 0, (nOf t.val).val])
theorem idx_7 : ∀ t : Fin cfg0.N, win0_7.index t = ![(bOf t.val).val, 0, 0] :=
  (by decide +kernel : ∀ t : Fin grid0.N, win0_7.index t = ![(bOf t.val).val, 0, 0])
theorem idx_8 : ∀ t : Fin cfg0.N, win0_8.index t = ![(bOf t.val).val, (nOf t.val).val, 0] :=
  (by decide +kernel : ∀ t : Fin grid0.N, win0_8.index t = ![(bOf t.val).val, (nOf t.val).val, 0])
theorem idx_9 : ∀ t : Fin cfg0.N, win0_9.index t = ![(bOf t.val).val, 0, (nOf t.val).val] :=
  (by decide +kernel : ∀ t : Fin grid0.N, win0_9.index t = ![(bOf t.val).val, 0, (nOf t.val).val])

/-- The gated product of the arguments as core `c`'s memory holds them. -/
def argHid : Fin 12288 → Fin 6912 → EReal :=
  hid (fun r k => (m ((c : Thread nD τ).loc main_arg0) : Vec Ideal S12288x2560 .bf16) (ix2 r k))
    (fun k j => (m ((c : Thread nD τ).loc main_arg1) : Vec Ideal S2560x6912 .fp8e4m3) (ix2 k j))
    (fun p q => (m ((c : Thread nD τ).loc main_arg2) : Vec Ideal S20x54 .f32) (ix2 p q))
    (fun k j => (m ((c : Thread nD τ).loc main_arg3) : Vec Ideal S2560x6912 .fp8e4m3) (ix2 k j))
    (fun p q => (m ((c : Thread nD τ).loc main_arg4) : Vec Ideal S20x54 .f32) (ix2 p q))

theorem iblk0_at (t : Fin cfg0.N) (p : Fin 20) (q : Fin 54) :
    (iblk m c 0 t : Vec Ideal S20x54 .f32) (ix2 p q) = (m ((c : Thread nD τ).loc main_arg2) : Vec Ideal S20x54 .f32) (ix2 p q) := by
  blk_ext [iblk, V, idx_0]
theorem iblk1_at (t : Fin cfg0.N) (p : Fin 20) (q : Fin 54) :
    (iblk m c 1 t : Vec Ideal S20x54 .f32) (ix2 p q) = (m ((c : Thread nD τ).loc main_arg4) : Vec Ideal S20x54 .f32) (ix2 p q) := by
  blk_ext [iblk, V, idx_1]
theorem iblk2_at (t : Fin cfg0.N) (r : Fin 1024) (k : Fin 2560) :
    (iblk m c 2 t : Vec Ideal S1024x2560 .bf16) (ix2 r k)
      = (m ((c : Thread nD τ).loc main_arg0) : Vec Ideal S12288x2560 .bf16) (ix2 ⟨1024 * (bOf t.val).val + r.val, by omega⟩ k) := by
  blk_ext [iblk, V, idx_2]
theorem iblk3_at (t : Fin cfg0.N) (k : Fin 2560) (j : Fin 256) :
    (iblk m c 3 t : Vec Ideal S2560x256 .fp8e4m3) (ix2 k j)
      = (m ((c : Thread nD τ).loc main_arg1) : Vec Ideal S2560x6912 .fp8e4m3) (ix2 k ⟨256 * (nOf t.val).val + j.val, by omega⟩) := by
  blk_ext [iblk, V, idx_3]
theorem iblk4_at (t : Fin cfg0.N) (k : Fin 2560) (j : Fin 256) :
    (iblk m c 4 t : Vec Ideal S2560x256 .fp8e4m3) (ix2 k j)
      = (m ((c : Thread nD τ).loc main_arg3) : Vec Ideal S2560x6912 .fp8e4m3) (ix2 k ⟨256 * (nOf t.val).val + j.val, by omega⟩) := by
  blk_ext [iblk, V, idx_4]

end Cert.KernelIdeal.Up
-- ==== Proof.Up.RunA.lean ====
/- The run of the kernel's body at a point that is not the last of its row of blocks: the pieces that its stores leave in each
   buffer, and the body's triple. -/
module

public import proofs.«01_k».proof.Proof.Up.Kit

@[expose] public section

set_option maxRecDepth 16384

noncomputable section

namespace Cert.KernelIdeal.Up

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in each output's staging buffer and in the scratch of row scales, as pieces (last
    first), at a point that is not the last of its row of blocks, with the body's triple: from the inputs' blocks `x0`, …, `x4`, the other
    buffers at anything and the scratch of row scales at `hs`, the body runs and leaves the pieces written. -/
def kernelRunA (c : Dev nD) (i : grid0.Coords) (arg2 : Memref sig .tc .smem S20x54 .f32) (harg2 : arg2.IsWhole) (arg3 : Memref sig .tc .smem S20x54 .f32) (harg3 : arg3.IsWhole) (arg4 : Memref sig .tc .vmem S1024x2560 .bf16) (harg4 : arg4.IsWhole) (arg5 : Memref sig .tc .vmem S2560x256 .fp8e4m3) (harg5 : arg5.IsWhole) (arg6 : Memref sig .tc .vmem S2560x256 .fp8e4m3) (harg6 : arg6.IsWhole) (arg7 : Memref sig .tc .vmem S1024x256 .bf16) (harg7 : arg7.IsWhole) (arg8 : Memref sig .tc .vmem S1x1024x256 .fp8e4m3) (harg8 : arg8.IsWhole) (arg9 : Memref sig .tc .vmem S1x54x1024 .f32) (harg9 : arg9.IsWhole) (arg10 : Memref sig .tc .vmem S1x256x1024 .fp8e4m3) (harg10 : arg10.IsWhole) (arg11 : Memref sig .tc .vmem S1x8x256 .f32) (harg11 : arg11.IsWhole) (arg12 : Memref sig .tc .vmem S2560x256 .bf16) (harg12 : arg12.IsWhole) (arg13 : Memref sig .tc .vmem S2560x256 .bf16) (harg13 : arg13.IsWhole) (arg14 : Memref sig .tc .vmem S128x256 .f32) (harg14 : arg14.IsWhole) (arg15 : Memref sig .tc .vmem S8x54x128 .f32) (harg15 : arg15.IsWhole) (hc0 : ¬cond0_0 i)
    (x0 : Vec F S20x54 .f32) (x1 : Vec F S20x54 .f32) (x2 : Vec F S1024x2560 .bf16) (x3 : Vec F S2560x256 .fp8e4m3) (x4 : Vec F S2560x256 .fp8e4m3) (hs : Vec F S8x54x128 .f32)  :
    Σ' (L5 : List (View.Piece (Elt F) S1024x256 .bf16)), Σ' (L6 : List (View.Piece (Elt F) S1x1024x256 .fp8e4m3)), Σ' (L8 : List (View.Piece (Elt F) S1x256x1024 .fp8e4m3)), Σ' (L9 : List (View.Piece (Elt F) S1x8x256 .f32)), { LS : List (View.Piece (Elt F) S8x54x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare hs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ d, owns (c : Thread nD τ) arg9 fullShare d) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d) ∗ arg15.view.loc (c : Thread nD τ) ↦[arg15.view.set]{fullShare} arg15.view.writes (Elt F) (harg15.unread hs) LS) -∗ K ⟨⟩))
          ⊢ wp frame (wpE (defs₀ (F := F)) Variants.none c none) E (cc0_mhc_up i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_mhc_up_eq_skeleton]; unfold cc0_mhc_up_skel
    simp only [k0_part89_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg15.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _, _; isplitr; swap; · iexact H7
      ipureintro; rfl
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HS3

end Cert.KernelIdeal.Up

end
-- ==== Proof.Up.PiecesA.lean ====
/- The stores of the body's run away from the last point of a row of blocks are the lists of pieces of the tile functions. -/
module

public import proofs.«01_k».proof.Proof.Up.Lists
public import proofs.«01_k».proof.Proof.Up.RunA

@[expose] public section

set_option maxRecDepth 16384

noncomputable section

namespace Cert.KernelIdeal.Up

open Cert.KernelIdeal.Gen
open Idealize.ShloMosaic Idealize.ShloMosaic.TcCoe Idealize.SL.Sem Idealize.ShloMosaic.Tactic

variable {F : FTy → Type} [FloatOps F]

section
variable (c : Dev nD) (i : grid0.Coords) (arg2 : Memref sig .tc .smem S20x54 .f32) (harg2 : arg2.IsWhole) (arg3 : Memref sig .tc .smem S20x54 .f32) (harg3 : arg3.IsWhole) (arg4 : Memref sig .tc .vmem S1024x2560 .bf16) (harg4 : arg4.IsWhole) (arg5 : Memref sig .tc .vmem S2560x256 .fp8e4m3) (harg5 : arg5.IsWhole) (arg6 : Memref sig .tc .vmem S2560x256 .fp8e4m3) (harg6 : arg6.IsWhole) (arg7 : Memref sig .tc .vmem S1024x256 .bf16) (harg7 : arg7.IsWhole) (arg8 : Memref sig .tc .vmem S1x1024x256 .fp8e4m3) (harg8 : arg8.IsWhole) (arg9 : Memref sig .tc .vmem S1x54x1024 .f32) (harg9 : arg9.IsWhole) (arg10 : Memref sig .tc .vmem S1x256x1024 .fp8e4m3) (harg10 : arg10.IsWhole) (arg11 : Memref sig .tc .vmem S1x8x256 .f32) (harg11 : arg11.IsWhole) (arg12 : Memref sig .tc .vmem S2560x256 .bf16) (harg12 : arg12.IsWhole) (arg13 : Memref sig .tc .vmem S2560x256 .bf16) (harg13 : arg13.IsWhole) (arg14 : Memref sig .tc .vmem S128x256 .f32) (harg14 : arg14.IsWhole) (arg15 : Memref sig .tc .vmem S8x54x128 .f32) (harg15 : arg15.IsWhole) (hc0 : ¬cond0_0 i)
    (x0 : Vec F S20x54 .f32) (x1 : Vec F S20x54 .f32) (x2 : Vec F S1024x2560 .bf16) (x3 : Vec F S2560x256 .fp8e4m3) (x4 : Vec F S2560x256 .fp8e4m3) (hs : Vec F S8x54x128 .f32)

theorem runA_L5 : (kernelRunA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).1 = L5 arg14 (fun t => hmTile (aLoad arg4 harg4 x2 t) (wAll arg2 harg2 arg5 harg5 i x0 x3 arg12) (wAll arg3 harg3 arg6 harg6 i x1 x4 arg13)) := by sl_kernel_rfl

theorem runA_L6 : (kernelRunA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).2.1 = L6 arg14 (fun t => hmTile (aLoad arg4 harg4 x2 t) (wAll arg2 harg2 arg5 harg5 i x0 x3 arg12) (wAll arg3 harg3 arg6 harg6 i x1 x4 arg13)) := by sl_kernel_rfl

theorem runA_L8 : (kernelRunA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).2.2.1 = L8 (fun t => hmTile (aLoad arg4 harg4 x2 t) (wAll arg2 harg2 arg5 harg5 i x0 x3 arg12) (wAll arg3 harg3 arg6 harg6 i x1 x4 arg13)) := by sl_kernel_rfl

theorem runA_L9 : (kernelRunA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).2.2.2.1 = L9 (fun t => hmTile (aLoad arg4 harg4 x2 t) (wAll arg2 harg2 arg5 harg5 i x0 x3 arg12) (wAll arg3 harg3 arg6 harg6 i x1 x4 arg13)) := by sl_kernel_rfl

theorem runA_LS : (kernelRunA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).2.2.2.2.1 = LS (fun t => hmTile (aLoad arg4 harg4 x2 t) (wAll arg2 harg2 arg5 harg5 i x0 x3 arg12) (wAll arg3 harg3 arg6 harg6 i x1 x4 arg13)) i := by sl_kernel_rfl

end

end Cert.KernelIdeal.Up
-- ==== Proof.Up.RunB.lean ====
/- The run of the kernel's body at the last point of a row of blocks, where the collected row scales are copied out: the pieces that its stores leave in each
   buffer, and the body's triple. -/
module

public import proofs.«01_k».proof.Proof.Up.RunA

@[expose] public section

set_option maxRecDepth 16384

noncomputable section

namespace Cert.KernelIdeal.Up

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in each output's staging buffer and in the scratch of row scales, as pieces (last
    first), at the last point of a row of blocks, where the collected row scales are copied out, with the body's triple: from the inputs' blocks `x0`, …, `x4`, the other
    buffers at anything and the scratch of row scales at `hs`, the body runs and leaves the pieces written. -/
def kernelRunB (c : Dev nD) (i : grid0.Coords) (arg2 : Memref sig .tc .smem S20x54 .f32) (harg2 : arg2.IsWhole) (arg3 : Memref sig .tc .smem S20x54 .f32) (harg3 : arg3.IsWhole) (arg4 : Memref sig .tc .vmem S1024x2560 .bf16) (harg4 : arg4.IsWhole) (arg5 : Memref sig .tc .vmem S2560x256 .fp8e4m3) (harg5 : arg5.IsWhole) (arg6 : Memref sig .tc .vmem S2560x256 .fp8e4m3) (harg6 : arg6.IsWhole) (arg7 : Memref sig .tc .vmem S1024x256 .bf16) (harg7 : arg7.IsWhole) (arg8 : Memref sig .tc .vmem S1x1024x256 .fp8e4m3) (harg8 : arg8.IsWhole) (arg9 : Memref sig .tc .vmem S1x54x1024 .f32) (harg9 : arg9.IsWhole) (arg10 : Memref sig .tc .vmem S1x256x1024 .fp8e4m3) (harg10 : arg10.IsWhole) (arg11 : Memref sig .tc .vmem S1x8x256 .f32) (harg11 : arg11.IsWhole) (arg12 : Memref sig .tc .vmem S2560x256 .bf16) (harg12 : arg12.IsWhole) (arg13 : Memref sig .tc .vmem S2560x256 .bf16) (harg13 : arg13.IsWhole) (arg14 : Memref sig .tc .vmem S128x256 .f32) (harg14 : arg14.IsWhole) (arg15 : Memref sig .tc .vmem S8x54x128 .f32) (harg15 : arg15.IsWhole) (hc0 : cond0_0 i)
    (x0 : Vec F S20x54 .f32) (x1 : Vec F S20x54 .f32) (x2 : Vec F S1024x2560 .bf16) (x3 : Vec F S2560x256 .fp8e4m3) (x4 : Vec F S2560x256 .fp8e4m3) (hs : Vec F S8x54x128 .f32)  :
    Σ' (L5 : List (View.Piece (Elt F) S1024x256 .bf16)), Σ' (L6 : List (View.Piece (Elt F) S1x1024x256 .fp8e4m3)), Σ' (L7 : List (View.Piece (Elt F) S1x54x1024 .f32)), Σ' (L8 : List (View.Piece (Elt F) S1x256x1024 .fp8e4m3)), Σ' (L9 : List (View.Piece (Elt F) S1x8x256 .f32)), { LS : List (View.Piece (Elt F) S8x54x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare hs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d) ∗ arg15.view.loc (c : Thread nD τ) ↦[arg15.view.set]{fullShare} arg15.view.writes (Elt F) (harg15.unread hs) LS) -∗ K ⟨⟩))
          ⊢ wp frame (wpE (defs₀ (F := F)) Variants.none c none) E (cc0_mhc_up i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_mhc_up_eq_skeleton]; unfold cc0_mhc_up_skel
    simp only [k0_part89_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg15.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HS3

end Cert.KernelIdeal.Up

end
-- ==== Proof.Up.PiecesB.lean ====
/- The stores of the body's run at the last point of a row of blocks are the lists of pieces of the tile functions. -/
module

public import proofs.«01_k».proof.Proof.Up.Lists
public import proofs.«01_k».proof.Proof.Up.RunB

@[expose] public section

set_option maxRecDepth 16384

noncomputable section

namespace Cert.KernelIdeal.Up

open Cert.KernelIdeal.Gen
open Idealize.ShloMosaic Idealize.ShloMosaic.TcCoe Idealize.SL.Sem Idealize.ShloMosaic.Tactic

variable {F : FTy → Type} [FloatOps F]

section
variable (c : Dev nD) (i : grid0.Coords) (arg2 : Memref sig .tc .smem S20x54 .f32) (harg2 : arg2.IsWhole) (arg3 : Memref sig .tc .smem S20x54 .f32) (harg3 : arg3.IsWhole) (arg4 : Memref sig .tc .vmem S1024x2560 .bf16) (harg4 : arg4.IsWhole) (arg5 : Memref sig .tc .vmem S2560x256 .fp8e4m3) (harg5 : arg5.IsWhole) (arg6 : Memref sig .tc .vmem S2560x256 .fp8e4m3) (harg6 : arg6.IsWhole) (arg7 : Memref sig .tc .vmem S1024x256 .bf16) (harg7 : arg7.IsWhole) (arg8 : Memref sig .tc .vmem S1x1024x256 .fp8e4m3) (harg8 : arg8.IsWhole) (arg9 : Memref sig .tc .vmem S1x54x1024 .f32) (harg9 : arg9.IsWhole) (arg10 : Memref sig .tc .vmem S1x256x1024 .fp8e4m3) (harg10 : arg10.IsWhole) (arg11 : Memref sig .tc .vmem S1x8x256 .f32) (harg11 : arg11.IsWhole) (arg12 : Memref sig .tc .vmem S2560x256 .bf16) (harg12 : arg12.IsWhole) (arg13 : Memref sig .tc .vmem S2560x256 .bf16) (harg13 : arg13.IsWhole) (arg14 : Memref sig .tc .vmem S128x256 .f32) (harg14 : arg14.IsWhole) (arg15 : Memref sig .tc .vmem S8x54x128 .f32) (harg15 : arg15.IsWhole) (hc0 : cond0_0 i)
    (x0 : Vec F S20x54 .f32) (x1 : Vec F S20x54 .f32) (x2 : Vec F S1024x2560 .bf16) (x3 : Vec F S2560x256 .fp8e4m3) (x4 : Vec F S2560x256 .fp8e4m3) (hs : Vec F S8x54x128 .f32)

theorem runB_L5 : (kernelRunB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).1 = L5 arg14 (fun t => hmTile (aLoad arg4 harg4 x2 t) (wAll arg2 harg2 arg5 harg5 i x0 x3 arg12) (wAll arg3 harg3 arg6 harg6 i x1 x4 arg13)) := by sl_kernel_rfl

theorem runB_L6 : (kernelRunB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).2.1 = L6 arg14 (fun t => hmTile (aLoad arg4 harg4 x2 t) (wAll arg2 harg2 arg5 harg5 i x0 x3 arg12) (wAll arg3 harg3 arg6 harg6 i x1 x4 arg13)) := by sl_kernel_rfl

theorem runB_L7 : (kernelRunB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).2.2.1 = L7 (fun t => hmTile (aLoad arg4 harg4 x2 t) (wAll arg2 harg2 arg5 harg5 i x0 x3 arg12) (wAll arg3 harg3 arg6 harg6 i x1 x4 arg13)) arg15 harg15 i hs := by sl_kernel_rfl

theorem runB_L8 : (kernelRunB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).2.2.2.1 = L8 (fun t => hmTile (aLoad arg4 harg4 x2 t) (wAll arg2 harg2 arg5 harg5 i x0 x3 arg12) (wAll arg3 harg3 arg6 harg6 i x1 x4 arg13)) := by sl_kernel_rfl

theorem runB_L9 : (kernelRunB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).2.2.2.2.1 = L9 (fun t => hmTile (aLoad arg4 harg4 x2 t) (wAll arg2 harg2 arg5 harg5 i x0 x3 arg12) (wAll arg3 harg3 arg6 harg6 i x1 x4 arg13)) := by sl_kernel_rfl

theorem runB_LS : (kernelRunB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).2.2.2.2.2.1 = LS (fun t => hmTile (aLoad arg4 harg4 x2 t) (wAll arg2 harg2 arg5 harg5 i x0 x3 arg12) (wAll arg3 harg3 arg6 harg6 i x1 x4 arg13)) i := by sl_kernel_rfl

end

end Cert.KernelIdeal.Up
-- ==== Proof.Up.Step.lean ====
/- The kernel's body at one point, as a change of block contents: what the windows and the scratch hold after it,
   from what the arguments' blocks and the scratch held before it. -/
module

public import proofs.«01_k».proof.Proof.Up.Block
public import proofs.«01_k».proof.Proof.Up.PiecesA
public import proofs.«01_k».proof.Proof.Up.PiecesB

@[expose] public section

set_option maxRecDepth 16384

noncomputable section

namespace Cert.KernelIdeal.Up

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

section
variable (c : Dev nD) (i : grid0.Coords) (arg2 : Memref sig .tc .smem S20x54 .f32) (harg2 : arg2.IsWhole) (arg3 : Memref sig .tc .smem S20x54 .f32) (harg3 : arg3.IsWhole) (arg4 : Memref sig .tc .vmem S1024x2560 .bf16) (harg4 : arg4.IsWhole) (arg5 : Memref sig .tc .vmem S2560x256 .fp8e4m3) (harg5 : arg5.IsWhole) (arg6 : Memref sig .tc .vmem S2560x256 .fp8e4m3) (harg6 : arg6.IsWhole) (arg7 : Memref sig .tc .vmem S1024x256 .bf16) (harg7 : arg7.IsWhole) (arg8 : Memref sig .tc .vmem S1x1024x256 .fp8e4m3) (harg8 : arg8.IsWhole) (arg9 : Memref sig .tc .vmem S1x54x1024 .f32) (harg9 : arg9.IsWhole) (arg10 : Memref sig .tc .vmem S1x256x1024 .fp8e4m3) (harg10 : arg10.IsWhole) (arg11 : Memref sig .tc .vmem S1x8x256 .f32) (harg11 : arg11.IsWhole) (arg12 : Memref sig .tc .vmem S2560x256 .bf16) (harg12 : arg12.IsWhole) (arg13 : Memref sig .tc .vmem S2560x256 .bf16) (harg13 : arg13.IsWhole) (arg14 : Memref sig .tc .vmem S128x256 .f32) (harg14 : arg14.IsWhole) (arg15 : Memref sig .tc .vmem S8x54x128 .f32) (harg15 : arg15.IsWhole)
variable (x0 : Vec Ideal S20x54 .f32) (x1 : Vec Ideal S20x54 .f32) (x2 : Vec Ideal S1024x2560 .bf16) (x3 : Vec Ideal S2560x256 .fp8e4m3) (x4 : Vec Ideal S2560x256 .fp8e4m3) (hs : Vec Ideal S8x54x128 .f32)
variable {H : Fin 12288 → Fin 6912 → EReal} {b : Fin 12} {n : Fin 27} (hi : (i 1).val = n.val)
variable (hH : IsHid H b n (fun t => hmTile (aLoad arg4 harg4 x2 t) (wAll arg2 harg2 arg5 harg5 i x0 x3 arg12) (wAll arg3 harg3 arg6 harg6 i x1 x4 arg13))) (hS : Scales H b (2 * n.val) hs)

include hi hH hS

/-- The body at a point that is not the last of its row of blocks: from the blocks of the arguments and the scales of the earlier groups of columns it leaves the blocks of the first, second, fourth and fifth result and the scales of two more groups. -/
theorem stepA (hc0 : ¬cond0_0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
      ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (∃ d, owns (c : Thread nD τ) arg12 fullShare d) ∗ (∃ d, owns (c : Thread nD τ) arg13 fullShare d) ∗ (∃ d, owns (c : Thread nD τ) arg14 fullShare d) ∗ owns (c : Thread nD τ) arg15 fullShare hs
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
      ∗ owns (c : Thread nD τ) arg7 fullShare (G5 H b n) ∗ owns (c : Thread nD τ) arg8 fullShare (G6 H b n) ∗ (∃ d, owns (c : Thread nD τ) arg9 fullShare d) ∗ owns (c : Thread nD τ) arg10 fullShare (G8 H b n) ∗ owns (c : Thread nD τ) arg11 fullShare (G9 H b n)
      ∗ (∃ d, owns (c : Thread nD τ) arg12 fullShare d) ∗ (∃ d, owns (c : Thread nD τ) arg13 fullShare d) ∗ (∃ d, owns (c : Thread nD τ) arg14 fullShare d) ∗ (∃ hs', ⌜Scales H b (2 * n.val + 2) hs'⌝ ∗ owns (c : Thread nD τ) arg15 fullShare hs')) -∗ K ⟨⟩))
      ⊢ wp frame (wpE (defs₀ (F := Ideal)) Variants.none c none) E (cc0_mhc_up i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, S0, S1, S2, S3, Hk⟩
  iapply ((kernelRunA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  iintro ⟨H0, H1, H2, H3, H4, ⟨%e5, H5⟩, ⟨%e6, H6⟩, H7, ⟨%e8, H8⟩, ⟨%e9, H9⟩, S0, S1, S2, S3⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [runA_L5]; exact read_L5 hH arg14 arg7 _
  isplitl [H6]
  · unfold owns; iexists _; isplitr
    swap; · iexact H6
    ipureintro; rw [runA_L6]; exact read_L6 hH arg14 arg8 _
  isplitl [H7]; · iexact H7
  isplitl [H8]
  · unfold owns; iexists _; isplitr
    swap; · iexact H8
    ipureintro; rw [runA_L8]; exact read_L8 hH arg10 _
  isplitl [H9]
  · unfold owns; iexists _; isplitr
    swap; · iexact H9
    ipureintro; rw [runA_L9]; exact read_L9 hH arg11 _
  isplitl [S0]; · iexact S0
  isplitl [S1]; · iexact S1
  isplitl [S2]; · iexact S2
  iexists _
  isplitr
  swap
  · unfold owns; iexists _; isplitr
    swap; · iexact S3
    ipureintro; rfl
  ipureintro; rw [runA_LS]; exact read_LS hH arg15 harg15 i hi hs hS

/-- The body at the last point of a row of blocks: it leaves the third result's block too. -/
theorem stepB (hc0 : cond0_0 i) (hn : n.val = 26) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
      ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (∃ d, owns (c : Thread nD τ) arg12 fullShare d) ∗ (∃ d, owns (c : Thread nD τ) arg13 fullShare d) ∗ (∃ d, owns (c : Thread nD τ) arg14 fullShare d) ∗ owns (c : Thread nD τ) arg15 fullShare hs
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
      ∗ owns (c : Thread nD τ) arg7 fullShare (G5 H b n) ∗ owns (c : Thread nD τ) arg8 fullShare (G6 H b n) ∗ owns (c : Thread nD τ) arg9 fullShare (G7 H b) ∗ owns (c : Thread nD τ) arg10 fullShare (G8 H b n) ∗ owns (c : Thread nD τ) arg11 fullShare (G9 H b n)
      ∗ (∃ d, owns (c : Thread nD τ) arg12 fullShare d) ∗ (∃ d, owns (c : Thread nD τ) arg13 fullShare d) ∗ (∃ d, owns (c : Thread nD τ) arg14 fullShare d) ∗ (∃ hs', ⌜Scales H b (2 * n.val + 2) hs'⌝ ∗ owns (c : Thread nD τ) arg15 fullShare hs')) -∗ K ⟨⟩))
      ⊢ wp frame (wpE (defs₀ (F := Ideal)) Variants.none c none) E (cc0_mhc_up i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, S0, S1, S2, S3, Hk⟩
  iapply ((kernelRunB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hs).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  iintro ⟨H0, H1, H2, H3, H4, ⟨%e5, H5⟩, ⟨%e6, H6⟩, ⟨%e7, H7⟩, ⟨%e8, H8⟩, ⟨%e9, H9⟩, S0, S1, S2, S3⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [runB_L5]; exact read_L5 hH arg14 arg7 _
  isplitl [H6]
  · unfold owns; iexists _; isplitr
    swap; · iexact H6
    ipureintro; rw [runB_L6]; exact read_L6 hH arg14 arg8 _
  isplitl [H7]
  · unfold owns; iexists _; isplitr
    swap; · iexact H7
    ipureintro; rw [runB_L7]; exact read_L7 hH arg15 harg15 i hi hn hs hS arg9 _
  isplitl [H8]
  · unfold owns; iexists _; isplitr
    swap; · iexact H8
    ipureintro; rw [runB_L8]; exact read_L8 hH arg10 _
  isplitl [H9]
  · unfold owns; iexists _; isplitr
    swap; · iexact H9
    ipureintro; rw [runB_L9]; exact read_L9 hH arg11 _
  isplitl [S0]; · iexact S0
  isplitl [S1]; · iexact S1
  isplitl [S2]; · iexact S2
  iexists _
  isplitr
  swap
  · unfold owns; iexists _; isplitr
    swap; · iexact S3
    ipureintro; rfl
  ipureintro; rw [runB_LS]; exact read_LS hH arg15 harg15 i hi hs hS

end

end Cert.KernelIdeal.Up
-- ==== Proof.Up.Body.lean ====
/- The pipeline's run: what every window's buffer holds after the body at each grid point, the invariant of the scratch
   that collects the row scales, the body's obligation at every point, and the run of the whole program. -/
module

public import proofs.«01_k».proof.Proof.Up.Inputs
public import proofs.«01_k».proof.Proof.Up.Step

@[expose] public section

set_option maxRecDepth 16384

noncomputable section

namespace Cert.KernelIdeal.Up

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Between two points: the scratch buffers at any contents, but the last holds the row scales of the batch's earlier
    groups of columns. -/
def inv (c : Dev nD) (t : ℕ) : sProp 𝕄 :=
  iprop(iprop((∃ d, owns (c : Thread nD τ) scM0_0 fullShare d) ∗ (∃ d, owns (c : Thread nD τ) scM0_1 fullShare d) ∗ (∃ d, owns (c : Thread nD τ) scM0_2 fullShare d)
    ∗ (∃ hs, ⌜Scales (argHid m c) (bOf t) (2 * (nOf t).val) hs⌝ ∗ owns (c : Thread nD τ) scM0_3 fullShare hs)) ∗ (∃ r, prngReg c r))

/-- After a point the scratch is as the next point needs it: two more groups in the row, or none in a new row. -/
theorem scales_next {H : Fin 12288 → Fin 6912 → EReal} {t : ℕ} {hs : Vec Ideal S8x54x128 .f32} (hc : ¬t % 27 = 26 ∨ t % 27 = 26)
    (h : Scales H (bOf t) (2 * (nOf t).val + 2) hs) : Scales H (bOf (t + 1)) (2 * (nOf (t + 1)).val) hs := by
  rcases hc with hc | hc
  · have hb : bOf (t + 1) = bOf t := Fin.ext (by dsimp only [bOf]; omega)
    have hn : 2 * (nOf (t + 1)).val = 2 * (nOf t).val + 2 := by dsimp only [nOf]; omega
    rw [hb, hn]; exact h
  · intro s kb l hk
    have hn : (nOf (t + 1)).val = 0 := by dsimp only [nOf]; omega
    omega

/-- The pipeline's proof data on core `c`: the arrays as launched; after the body at point `t` each argument's buffer at its
    block and each result's at the block of the specified array. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => G5 (argHid m c) (bOf t.val) (nOf t.val)
    | ⟨6, _⟩ => G6 (argHid m c) (bOf t.val) (nOf t.val)
    | ⟨7, _⟩ => G7 (argHid m c) (bOf t.val)
    | ⟨8, _⟩ => G8 (argHid m c) (bOf t.val) (nOf t.val)
    | ⟨9, _⟩ => G9 (argHid m c) (bOf t.val) (nOf t.val)
  Φ t := inv m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = inv m c t.val := rfl
theorem Phi_succ (c : Dev nD) (t : Fin cfg0.N) : (dats m 0 c).Φ t.succ = inv m c (t.val + 1) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = G5 (argHid m c) (bOf t.val) (nOf t.val) := by dsimp only [dats]
theorem after0_6 (c : Dev nD) (t : Fin cfg0.N) : (dats m 0 c).after 6 t = G6 (argHid m c) (bOf t.val) (nOf t.val) := by dsimp only [dats]
theorem after0_7 (c : Dev nD) (t : Fin cfg0.N) : (dats m 0 c).after 7 t = G7 (argHid m c) (bOf t.val) := by dsimp only [dats]
theorem after0_8 (c : Dev nD) (t : Fin cfg0.N) : (dats m 0 c).after 8 t = G8 (argHid m c) (bOf t.val) (nOf t.val) := by dsimp only [dats]
theorem after0_9 (c : Dev nD) (t : Fin cfg0.N) : (dats m 0 c).after 9 t = G9 (argHid m c) (bOf t.val) (nOf t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The third result's buffer is never found holding anything said: it is written only where it is sent back. -/
theorem before0_7 (c : Dev nD) (t : Fin cfg0.N) (d) : (dats m 0 c).before 7 t d = d := by
  obtain ⟨k, hk⟩ := t
  induction k using Nat.strong_induction_on with
  | _ k ih =>
    unfold Dat.before
    rw [if_neg (by rw [show (cfg0.win 7).fetch ⟨k, hk⟩ = false from rfl]; decide)]
    by_cases h0 : k = 0
    · rw [if_pos h0]
    rw [if_neg h0]
    dsimp only
    by_cases hf : (cfg0.win 7).flush ⟨k - 1, Nat.lt_of_le_of_lt (Nat.sub_le _ _) hk⟩ = true
    · rw [if_pos hf]
    rw [if_neg hf]
    have hidle : idle0 7 (grid0.coords ⟨k - 1, Nat.lt_of_le_of_lt (Nat.sub_le _ _) hk⟩) = true := by
      have hn : ¬cond0_0 (grid0.coords ⟨k - 1, Nat.lt_of_le_of_lt (Nat.sub_le _ _) hk⟩) := fun h => hf ((flush0_7 _).mpr ((hcond0_0 _).mp h))
      show (!(k0_cond1 (grid0.coords ⟨k - 1, Nat.lt_of_le_of_lt (Nat.sub_le _ _) hk⟩) == 1#1)) = true
      rw [beq_eq_false_iff_ne.mpr hn]; rfl
    rw [hidle]
    dsimp only
    rw [Dat.found_eq_before]
    exact ih (k - 1) (by omega) (Nat.lt_of_le_of_lt (Nat.sub_le _ _) hk)

/-- The steps' gated products at point `t` are the block of the arguments' gated product. -/
theorem isHidAt (c : Dev nD) (t : Fin cfg0.N) : IsHid (argHid m c) (bOf t.val) (nOf t.val)
    (fun s => hmTile (aLoad (ms0_2 t) (hs0_2 t) (iblk m c 2 t) s)
      (wAll (ms0_0 t) (hs0_0 t) (ms0_3 t) (hs0_3 t) (grid0.coords t) (iblk m c 0 t) (iblk m c 3 t) scM0_0)
      (wAll (ms0_1 t) (hs0_1 t) (ms0_4 t) (hs0_4 t) (grid0.coords t) (iblk m c 1 t) (iblk m c 4 t) scM0_1)) :=
  isHid _ _ _ _ _ _ _ _ _ _ _ _ _ _ _ _ _ _ _ _ (coords_1 t) _ _ _ _ _
    (iblk0_at m c t) (iblk1_at m c t) (iblk2_at m c t) (iblk3_at m c t) (iblk4_at m c t)

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns at a point that is not the last of its row of blocks. -/
def bodyPostA (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare ((dats m 0 c).before 7 t d))
    ∗ owns (c : Thread nD τ) (ms0_8 t) fullShare ((dats m 0 c).after 8 t)
    ∗ owns (c : Thread nD τ) (ms0_9 t) fullShare ((dats m 0 c).after 9 t))

/-- What it returns at the last point of a row of blocks. -/
def bodyPostB (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at a point that is not the last of its row of blocks. -/
theorem soundA (c : Dev nD) (t : Fin cfg0.N) (h : ¬t.val % 27 = 26) :
    bodyPre m c t ⊢ wp frame (wpE (defs₀ (F := Ideal)) Variants.none c none) Set.univ (bodyAt0 t) (fun _ => bodyPostA m c t) := by
  unfold bodyPre bodyPostA bodyAt0
  simp only [before0_0, before0_1, before0_2, before0_3, before0_4, before0_7]
  rw [show (dats m 0 c).owesAt () t.succ = (dats m 0 c).owesAt () t.castSucc from rfl, after0_0, after0_1, after0_2, after0_3, after0_4, after0_5, after0_6, after0_8, after0_9, Phi_castSucc, Phi_succ]
  unfold inv
  iintro ⟨⟨⟨S0, S1, S2, ⟨%hs, %hS, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepA c (grid0.coords t) _ _ _ _ _ _ _ _ _ _ _ _ _ _ _ _ _ _ _ _ _ _ _ _ _ _ _ _ (iblk m c 0 t) (iblk m c 1 t) (iblk m c 2 t) (iblk m c 3 t) (iblk m c 4 t) hs
    (coords_1 t) (isHidAt m c t) hS (fun h' => h ((hcond0_0 t).mp h')) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [S0]; · iexact S0
  isplitl [S1]; · iexact S1
  isplitl [S2]; · iexact S2
  isplitl [S3]; · iexact S3
  iintro ⟨H0, H1, H2, H3, H4, H5, H6, H7, H8, H9, S0, S1, S2, ⟨%hs', %hS', S3⟩⟩
  isplitl [S0 S1 S2 S3 Hg]
  · isplitl [S0 S1 S2 S3]
    · isplitl [S0]; · iexact S0
      isplitl [S1]; · iexact S1
      isplitl [S2]; · iexact S2
      iexists hs'
      isplitr
      · ipureintro; exact scales_next (Or.inl h) hS'
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1200000 in
/-- The body at the last point of a row of blocks. -/
theorem soundB (c : Dev nD) (t : Fin cfg0.N) (h : t.val % 27 = 26) :
    bodyPre m c t ⊢ wp frame (wpE (defs₀ (F := Ideal)) Variants.none c none) Set.univ (bodyAt0 t) (fun _ => bodyPostB m c t) := by
  unfold bodyPre bodyPostB bodyAt0
  simp only [before0_0, before0_1, before0_2, before0_3, before0_4, before0_7]
  rw [show (dats m 0 c).owesAt () t.succ = (dats m 0 c).owesAt () t.castSucc from rfl, after0_0, after0_1, after0_2, after0_3, after0_4, after0_5, after0_6, after0_7, after0_8, after0_9, Phi_castSucc, Phi_succ]
  unfold inv
  iintro ⟨⟨⟨S0, S1, S2, ⟨%hs, %hS, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepB c (grid0.coords t) _ _ _ _ _ _ _ _ _ _ _ _ _ _ _ _ _ _ _ _ _ _ _ _ _ _ _ _ (iblk m c 0 t) (iblk m c 1 t) (iblk m c 2 t) (iblk m c 3 t) (iblk m c 4 t) hs
    (coords_1 t) (isHidAt m c t) hS ((hcond0_0 t).mpr h) h Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [S0]; · iexact S0
  isplitl [S1]; · iexact S1
  isplitl [S2]; · iexact S2
  isplitl [S3]; · iexact S3
  iintro ⟨H0, H1, H2, H3, H4, H5, H6, H7, H8, H9, S0, S1, S2, ⟨%hs', %hS', S3⟩⟩
  isplitl [S0 S1 S2 S3 Hg]
  · isplitl [S0 S1 S2 S3]
    · isplitl [S0]; · iexact S0
      isplitl [S1]; · iexact S1
      isplitl [S2]; · iexact S2
      iexists hs'
      isplitr
      · ipureintro; exact scales_next (Or.inr h) hS'
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

theorem leaves7A (c : Dev nD) (t : Fin cfg0.N) (h : ¬t.val % 27 = 26) :
    idle0 7 (grid0.coords t) = true ∧ (win0 7).flush t = false := by
  constructor
  · have hn : ¬cond0_0 (grid0.coords t) := fun h' => h ((hcond0_0 t).mp h')
    show (!(k0_cond1 (grid0.coords t) == 1#1)) = true
    rw [beq_eq_false_iff_ne.mpr hn]; rfl
  · exact Bool.eq_false_iff.mpr fun h' => h ((flush0_7 t).mp h')

theorem leaves7B (c : Dev nD) (t : Fin cfg0.N) (h : t.val % 27 = 26) : idle0 7 (grid0.coords t) = false := by
  have hn : cond0_0 (grid0.coords t) := (hcond0_0 t).mpr h
  show (!(k0_cond1 (grid0.coords t) == 1#1)) = false
  rw [beq_iff_eq.mpr hn]; rfl

/-- The body's obligation at every point. -/
theorem body_obligation (c : Dev nD) : BodyObligation (dats m 0 c) (defs₀ (F := Ideal)) Variants.none () Set.univ := fun t => by
  by_cases h : t.val % 27 = 26
  · have h7 := leaves7B c t h
    rw [bigSep_W0, bigSep_W0, defs₀_row]
    dsimp only
    rw [h7]
    exact triple_restated (soundB m c t h) rfl .rfl fun _ => .rfl
  · obtain ⟨h7, h8⟩ := leaves7A c t h
    rw [bigSep_W0, bigSep_W0, defs₀_row]
    dsimp only
    rw [h7, h8]
    exact triple_restated (soundA m c t h) rfl .rfl fun _ => .rfl

/-! ## The run -/

theorem Phi_in (c : Dev nD) : Pipeline.ΦA spec0 c ⊢ (dats m 0 c).Φ 0 := by
  rw [PhiA0_eq, show (dats m 0 c).Φ 0 = inv m c 0 from rfl]
  unfold inv
  iintro ⟨⟨S0, S1, S2, ⟨%hs, S3⟩⟩, Hg⟩
  isplitl [S0 S1 S2 S3]
  · isplitl [S0]; · iexact S0
    isplitl [S1]; · iexact S1
    isplitl [S2]; · iexact S2
    iexists hs
    isplitr
    · ipureintro
      intro s kb l hk
      exact absurd hk (by show ¬kb.val < 2 * (0 % 27); omega)
    iexact S3
  iexact Hg

theorem Phi_out (c : Dev nD) : (dats m 0 c).Φ (Fin.last cfg0.N) ⊢ Pipeline.ΦA spec0 c := by
  rw [PhiA0_eq, show (dats m 0 c).Φ (Fin.last cfg0.N) = inv m c cfg0.N from rfl]
  unfold inv
  iintro ⟨⟨S0, S1, S2, ⟨%hs, %hS, S3⟩⟩, Hg⟩
  isplitl [S0 S1 S2 S3]
  · isplitl [S0]; · iexact S0
    isplitl [S1]; · iexact S1
    isplitl [S2]; · iexact S2
    iexists hs
    iexact S3
  iexact Hg

set_option backward.isDefEq.respectTransparency.types false in
set_option maxHeartbeats 800000 in
/-- Every run of the program ends with each array as the proof data say, and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)

end Cert.KernelIdeal.Up
-- ==== Proof.Up.Arrays.lean ====
/- The kernel's result arrays after the run: each is the specified array of the arguments. -/
module

public import proofs.«01_k».proof.Proof.Up.Body

@[expose] public section

set_option maxRecDepth 16384

noncomputable section

namespace Cert.KernelIdeal.Up

open Cert.KernelIdeal.Gen
open Idealize.ShloMosaic Idealize.ShloMosaic.TcCoe Idealize.ShloMosaic.Tactic
open Idealize.SL Idealize.SL.Sem

section
variable (H : Fin 12288 → Fin 6912 → EReal)
/-- The first result as an array. -/
def A5 : Vec Ideal S12288x6912 .bf16 := fun y => res0 H (y 0) (y 1)
/-- The second result as an array. -/
def A6 : Vec Ideal S12x1024x6912 .fp8e4m3 := fun y => res1 H (y 0) (y 1) (y 2)
/-- The third result as an array. -/
def A7 : Vec Ideal S12x54x1024 .f32 := fun y => res2 H (y 0) (y 1) (y 2)
/-- The fourth result as an array. -/
def A8 : Vec Ideal S12x6912x1024 .fp8e4m3 := fun y => res3 H (y 0) (y 1) (y 2)
/-- The fifth result as an array. -/
def A9 : Vec Ideal S12x8x6912 .f32 := fun y => res4 H (y 0) (y 1) (y 2)
end

variable (m : (ℓ : Loc nD τ sig) → Buf (Elt Ideal) ℓ) (c : Dev nD)

theorem arr_5 : (dats m 0 c).arrAt 5 cfg0.N = A5 (argHid m c) := by
  refine (dats m 0 c).arrAt_eq_of_covers 5 (A5 (argHid m c)) (by decide +kernel) fun t hf y => ?_
  blk_simp
  rw [after0_5]
  unfold G5 A5
  idx_bounds y
  congr 1 <;> (refine Fin.ext ?_; blk_simp [idx_5]; (try dsimp only); try omega)

theorem arr_6 : (dats m 0 c).arrAt 6 cfg0.N = A6 (argHid m c) := by
  refine (dats m 0 c).arrAt_eq_of_covers 6 (A6 (argHid m c)) (by decide +kernel) fun t hf y => ?_
  blk_simp
  rw [after0_6]
  unfold G6 A6
  idx_bounds y
  congr 1 <;> (refine Fin.ext ?_; blk_simp [idx_6]; (try dsimp only); try omega)

theorem arr_7 : (dats m 0 c).arrAt 7 cfg0.N = A7 (argHid m c) := by
  refine (dats m 0 c).arrAt_eq_of_covers 7 (A7 (argHid m c)) (by decide +kernel) fun t hf y => ?_
  blk_simp
  rw [after0_7]
  unfold G7 A7
  idx_bounds y
  congr 1 <;> (refine Fin.ext ?_; blk_simp [idx_7]; (try dsimp only); try omega)

theorem arr_8 : (dats m 0 c).arrAt 8 cfg0.N = A8 (argHid m c) := by
  refine (dats m 0 c).arrAt_eq_of_covers 8 (A8 (argHid m c)) (by decide +kernel) fun t hf y => ?_
  blk_simp
  rw [after0_8]
  unfold G8 A8
  idx_bounds y
  congr 1 <;> (refine Fin.ext ?_; blk_simp [idx_8]; (try dsimp only); try omega)

theorem arr_9 : (dats m 0 c).arrAt 9 cfg0.N = A9 (argHid m c) := by
  refine (dats m 0 c).arrAt_eq_of_covers 9 (A9 (argHid m c)) (by decide +kernel) fun t hf y => ?_
  blk_simp
  rw [after0_9]
  unfold G9 A9
  idx_bounds y
  congr 1 <;> (refine Fin.ext ?_; blk_simp [idx_9]; (try dsimp only); try omega)

end Cert.KernelIdeal.Up
-- ==== Proof.Up.RefArrays.lean ====
/- The reference's result arrays after its run: the specified arrays of its arguments. -/
module

public import proofs.«01_k».proof.Proof.Up.RefValue
public import proofs.«01_k».proof.Proof.Up.Arrays
public import proofs.«01_k».proof.Proof.Gen.ReferenceIdeal.Frame

@[expose] public section

set_option maxRecDepth 16384

noncomputable section

namespace Cert.ReferenceIdeal.Up

open Cert.ReferenceIdeal.Gen
open Cert.KernelIdeal.Up (hid A5 A6 A7 A8 A9)
open Idealize.ShloMosaic Idealize.ShloMosaic.TcCoe Idealize.ShloMosaic.Tactic
open Idealize.SL Idealize.SL.Sem

variable (m : (ℓ : Loc nD τ sig) → Buf (Elt Ideal) ℓ) (c : Dev nD)

/-- The gated product of the arguments as core `c`'s memory holds them. -/
def argHid : Fin 12288 → Fin 6912 → EReal :=
  hid (fun r k => (m ((c : Thread nD τ).loc main_arg0) : Vec Ideal S12288x2560 .bf16) (ix2 r k))
    (fun k j => (m ((c : Thread nD τ).loc main_arg1) : Vec Ideal S2560x6912 .fp8e4m3) (ix2 k j))
    (fun p q => (m ((c : Thread nD τ).loc main_arg2) : Vec Ideal S20x54 .f32) (ix2 p q))
    (fun k j => (m ((c : Thread nD τ).loc main_arg3) : Vec Ideal S2560x6912 .fp8e4m3) (ix2 k j))
    (fun p q => (m ((c : Thread nD τ).loc main_arg4) : Vec Ideal S20x54 .f32) (ix2 p q))

/-! The one block of each argument's window is the argument. -/

theorem idx_0 : ∀ t : Fin cfg0.N, win0_0.index t = ![0, 0] :=
  (by decide +kernel : ∀ t : Fin grid0.N, win0_0.index t = ![0, 0])
theorem idx_1 : ∀ t : Fin cfg0.N, win0_1.index t = ![0, 0] :=
  (by decide +kernel : ∀ t : Fin grid0.N, win0_1.index t = ![0, 0])
theorem idx_2 : ∀ t : Fin cfg0.N, win0_2.index t = ![0, 0] :=
  (by decide +kernel : ∀ t : Fin grid0.N, win0_2.index t = ![0, 0])
theorem idx_3 : ∀ t : Fin cfg0.N, win0_3.index t = ![0, 0] :=
  (by decide +kernel : ∀ t : Fin grid0.N, win0_3.index t = ![0, 0])
theorem idx_4 : ∀ t : Fin cfg0.N, win0_4.index t = ![0, 0] :=
  (by decide +kernel : ∀ t : Fin grid0.N, win0_4.index t = ![0, 0])
theorem idx_5 : ∀ t : Fin cfg0.N, win0_5.index t = ![0, 0] :=
  (by decide +kernel : ∀ t : Fin grid0.N, win0_5.index t = ![0, 0])
theorem idx_6 : ∀ t : Fin cfg0.N, win0_6.index t = ![0, 0, 0] :=
  (by decide +kernel : ∀ t : Fin grid0.N, win0_6.index t = ![0, 0, 0])
theorem idx_7 : ∀ t : Fin cfg0.N, win0_7.index t = ![0, 0, 0] :=
  (by decide +kernel : ∀ t : Fin grid0.N, win0_7.index t = ![0, 0, 0])
theorem idx_8 : ∀ t : Fin cfg0.N, win0_8.index t = ![0, 0, 0] :=
  (by decide +kernel : ∀ t : Fin grid0.N, win0_8.index t = ![0, 0, 0])
theorem idx_9 : ∀ t : Fin cfg0.N, win0_9.index t = ![0, 0, 0] :=
  (by decide +kernel : ∀ t : Fin grid0.N, win0_9.index t = ![0, 0, 0])
theorem iblk0_eq (t : Fin cfg0.N) : (iblk m c 0 t : Vec Ideal S12288x2560 .bf16) = m ((c : Thread nD τ).loc main_arg0) := by
  funext y
  blk_ext [iblk, V, idx_0]
theorem iblk1_eq (t : Fin cfg0.N) : (iblk m c 1 t : Vec Ideal S2560x6912 .fp8e4m3) = m ((c : Thread nD τ).loc main_arg1) := by
  funext y
  blk_ext [iblk, V, idx_1]
theorem iblk2_eq (t : Fin cfg0.N) : (iblk m c 2 t : Vec Ideal S20x54 .f32) = m ((c : Thread nD τ).loc main_arg2) := by
  funext y
  blk_ext [iblk, V, idx_2]
theorem iblk3_eq (t : Fin cfg0.N) : (iblk m c 3 t : Vec Ideal S2560x6912 .fp8e4m3) = m ((c : Thread nD τ).loc main_arg3) := by
  funext y
  blk_ext [iblk, V, idx_3]
theorem iblk4_eq (t : Fin cfg0.N) : (iblk m c 4 t : Vec Ideal S20x54 .f32) = m ((c : Thread nD τ).loc main_arg4) := by
  funext y
  blk_ext [iblk, V, idx_4]

/-! Reading an argument whole reads the argument. -/

theorem zero2 : (![0, 0] : Fin 2 → Nat) = fun _ => 0 := by decide
theorem ld_0 (x : Vec Ideal S12288x2560 .bf16) : View.ld x r0_0 = x := View.ld_unit_zero zero2 _ _
theorem ld_1 (x : Vec Ideal S2560x6912 .fp8e4m3) : View.ld x r0_1 = x := View.ld_unit_zero zero2 _ _
theorem ld_2 (x : Vec Ideal S20x54 .f32) : View.ld x r0_2 = x := View.ld_unit_zero zero2 _ _

theorem hidA_eq : hidA (View.ld (m ((c : Thread nD τ).loc main_arg0)) r0_0) (View.ld (m ((c : Thread nD τ).loc main_arg1)) r0_1)
    (View.ld (m ((c : Thread nD τ).loc main_arg2)) r0_2) (View.ld (m ((c : Thread nD τ).loc main_arg3)) r0_1)
    (View.ld (m ((c : Thread nD τ).loc main_arg4)) r0_2) = argHid m c := by
  rw [ld_0, ld_1, ld_2, ld_1, ld_2]
  funext ρ j
  exact pay5_at _ _ _ _ _ ρ j

theorem arr_5 : (dats m 0 c).arrAt 5 cfg0.N = A5 (argHid m c) := by
  refine (dats m 0 c).arrAt_eq_of_covers 5 (A5 (argHid m c)) (by decide +kernel) fun t hf y => ?_
  blk_simp
  rw [after0_5]
  have hy : (win0_5.blk t).view.emb y = y := by
    funext a; refine Fin.ext ?_
    match a with
    | ⟨0, _⟩ => blk_simp [idx_5]; (try dsimp only); try omega
    | ⟨1, _⟩ => blk_simp [idx_5]; (try dsimp only); try omega
  rw [hy]
  frame_out
  rw [iblk0_eq, iblk1_eq, iblk2_eq, iblk3_eq, iblk4_eq]
  obtain ⟨a, b, rfl⟩ : ∃ (a : Fin 12288) (b : Fin 6912), y = ix2 a b := ⟨y 0, y 1, eq_ix2 _⟩
  refine (ref0 _ _ _ _ _ a b).trans ?_
  exact congrArg (fun h => Cert.KernelIdeal.Up.res0 h a b) (hidA_eq m c)

theorem arr_6 : (dats m 0 c).arrAt 6 cfg0.N = A6 (argHid m c) := by
  refine (dats m 0 c).arrAt_eq_of_covers 6 (A6 (argHid m c)) (by decide +kernel) fun t hf y => ?_
  blk_simp
  rw [after0_6]
  have hy : (win0_6.blk t).view.emb y = y := by
    funext a; refine Fin.ext ?_
    match a with
    | ⟨0, _⟩ => blk_simp [idx_6]; (try dsimp only); try omega
    | ⟨1, _⟩ => blk_simp [idx_6]; (try dsimp only); try omega
    | ⟨2, _⟩ => blk_simp [idx_6]; (try dsimp only); try omega
  rw [hy]
  frame_out
  rw [iblk0_eq, iblk1_eq, iblk2_eq, iblk3_eq, iblk4_eq]
  obtain ⟨a, b, d, rfl⟩ : ∃ (a : Fin 12) (b : Fin 1024) (d : Fin 6912), y = ix3 a b d := ⟨y 0, y 1, y 2, eq_ix3 _⟩
  refine (ref1 _ _ _ _ _ a b d).trans ?_
  exact congrArg (fun h => Cert.KernelIdeal.Up.res1 h a b d) (hidA_eq m c)

theorem arr_7 : (dats m 0 c).arrAt 7 cfg0.N = A7 (argHid m c) := by
  refine (dats m 0 c).arrAt_eq_of_covers 7 (A7 (argHid m c)) (by decide +kernel) fun t hf y => ?_
  blk_simp
  rw [after0_7]
  have hy : (win0_7.blk t).view.emb y = y := by
    funext a; refine Fin.ext ?_
    match a with
    | ⟨0, _⟩ => blk_simp [idx_7]; (try dsimp only); try omega
    | ⟨1, _⟩ => blk_simp [idx_7]; (try dsimp only); try omega
    | ⟨2, _⟩ => blk_simp [idx_7]; (try dsimp only); try omega
  rw [hy]
  frame_out
  rw [iblk0_eq, iblk1_eq, iblk2_eq, iblk3_eq, iblk4_eq]
  obtain ⟨a, b, d, rfl⟩ : ∃ (a : Fin 12) (b : Fin 54) (d : Fin 1024), y = ix3 a b d := ⟨y 0, y 1, y 2, eq_ix3 _⟩
  refine (ref2 _ _ _ _ _ a b d).trans ?_
  exact congrArg (fun h => Cert.KernelIdeal.Up.res2 h a b d) (hidA_eq m c)

theorem arr_8 : (dats m 0 c).arrAt 8 cfg0.N = A8 (argHid m c) := by
  refine (dats m 0 c).arrAt_eq_of_covers 8 (A8 (argHid m c)) (by decide +kernel) fun t hf y => ?_
  blk_simp
  rw [after0_8]
  have hy : (win0_8.blk t).view.emb y = y := by
    funext a; refine Fin.ext ?_
    match a with
    | ⟨0, _⟩ => blk_simp [idx_8]; (try dsimp only); try omega
    | ⟨1, _⟩ => blk_simp [idx_8]; (try dsimp only); try omega
    | ⟨2, _⟩ => blk_simp [idx_8]; (try dsimp only); try omega
  rw [hy]
  frame_out
  rw [iblk0_eq, iblk1_eq, iblk2_eq, iblk3_eq, iblk4_eq]
  obtain ⟨a, b, d, rfl⟩ : ∃ (a : Fin 12) (b : Fin 6912) (d : Fin 1024), y = ix3 a b d := ⟨y 0, y 1, y 2, eq_ix3 _⟩
  refine (ref3 _ _ _ _ _ a b d).trans ?_
  exact congrArg (fun h => Cert.KernelIdeal.Up.res3 h a b d) (hidA_eq m c)

theorem arr_9 : (dats m 0 c).arrAt 9 cfg0.N = A9 (argHid m c) := by
  refine (dats m 0 c).arrAt_eq_of_covers 9 (A9 (argHid m c)) (by decide +kernel) fun t hf y => ?_
  blk_simp
  rw [after0_9]
  have hy : (win0_9.blk t).view.emb y = y := by
    funext a; refine Fin.ext ?_
    match a with
    | ⟨0, _⟩ => blk_simp [idx_9]; (try dsimp only); try omega
    | ⟨1, _⟩ => blk_simp [idx_9]; (try dsimp only); try omega
    | ⟨2, _⟩ => blk_simp [idx_9]; (try dsimp only); try omega
  rw [hy]
  frame_out
  rw [iblk0_eq, iblk1_eq, iblk2_eq, iblk3_eq, iblk4_eq]
  obtain ⟨a, b, d, rfl⟩ : ∃ (a : Fin 12) (b : Fin 8) (d : Fin 6912), y = ix3 a b d := ⟨y 0, y 1, y 2, eq_ix3 _⟩
  refine (ref4 _ _ _ _ _ a b d).trans ?_
  exact congrArg (fun h => Cert.KernelIdeal.Up.res4 h a b d) (hidA_eq m c)

end Cert.ReferenceIdeal.Up
-- ==== Proof.Up.Runs.lean ====
/- The two programs' runs with their results, and their equation: from memories that agree on the arguments the kernel and
   the reference end with equal results. -/
module

public import proofs.«01_k».proof.Proof.Up.RefArrays

@[expose] public section

set_option maxRecDepth 16384

noncomputable section

namespace Cert.KernelIdeal.Up

open Cert.KernelIdeal.Gen
open Idealize.ShloMosaic Idealize.ShloMosaic.TcCoe
open Idealize.SL Idealize.SL.Sem
open Idealize.ShloMosaic.Rounds

variable (m : (ℓ : Loc nD τ sig) → Buf (Elt Ideal) ℓ) (ρ : Dev nD → PrngReg)

/-- Every run ends with the arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-- Every run ends with the results the specified arrays of the arguments, and the arguments unchanged. -/
theorem run_values : θ_run defs (onTc (τ := τ) (main (F := Ideal))) ⟨m, fun _ => 0, ρ⟩ (fun r => ∀ c : Dev nD,
       r.2.mem ((c.tc : Thread nD τ).loc main_v0_0) = A5 (argHid m c)
      ∧ r.2.mem ((c.tc : Thread nD τ).loc main_v0_1) = A6 (argHid m c)
      ∧ r.2.mem ((c.tc : Thread nD τ).loc main_v0_2) = A7 (argHid m c)
      ∧ r.2.mem ((c.tc : Thread nD τ).loc main_v0_3) = A8 (argHid m c)
      ∧ r.2.mem ((c.tc : Thread nD τ).loc main_v0_4) = A9 (argHid m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (arr_5 m c),
    ((h c).1 6).trans (arr_6 m c),
    ((h c).1 7).trans (arr_7 m c),
    ((h c).1 8).trans (arr_8 m c),
    ((h c).1 9).trans (arr_9 m c),
    ((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c))),
    ((h c).1 0).trans (((dats m 0 c).arrAt_in 0 rfl _).trans ((A_eq m c 0).trans (V_main_arg2 m c))),
    ((h c).1 4).trans (((dats m 0 c).arrAt_in 4 rfl _).trans ((A_eq m c 4).trans (V_main_arg3 m c))),
    ((h c).1 1).trans (((dats m 0 c).arrAt_in 1 rfl _).trans ((A_eq m c 1).trans (V_main_arg4 m c)))⟩) (run_main m ρ)

end Cert.KernelIdeal.Up

namespace Cert.ReferenceIdeal.Up

open Cert.ReferenceIdeal.Gen
open Cert.KernelIdeal.Up (A5 A6 A7 A8 A9)
open Idealize.ShloMosaic Idealize.ShloMosaic.TcCoe
open Idealize.SL Idealize.SL.Sem
open Idealize.ShloMosaic.Rounds

variable (m : (ℓ : Loc nD τ sig) → Buf (Elt Ideal) ℓ) (ρ : Dev nD → PrngReg)

/-- Every run ends with the results the specified arrays of the arguments, and the arguments unchanged. -/
theorem run_values : θ_run defs (onTc (τ := τ) (main (F := Ideal))) ⟨m, fun _ => 0, ρ⟩ (fun r => ∀ c : Dev nD,
       r.2.mem ((c.tc : Thread nD τ).loc main_v0_0) = A5 (argHid m c)
      ∧ r.2.mem ((c.tc : Thread nD τ).loc main_v0_1) = A6 (argHid m c)
      ∧ r.2.mem ((c.tc : Thread nD τ).loc main_v0_2) = A7 (argHid m c)
      ∧ r.2.mem ((c.tc : Thread nD τ).loc main_v0_3) = A8 (argHid m c)
      ∧ r.2.mem ((c.tc : Thread nD τ).loc main_v0_4) = A9 (argHid m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (arr_5 m c),
    ((h c).1 6).trans (arr_6 m c),
    ((h c).1 7).trans (arr_7 m c),
    ((h c).1 8).trans (arr_8 m c),
    ((h c).1 9).trans (arr_9 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_main m ρ)

end Cert.ReferenceIdeal.Up
-- ==== Proof.MlpF.Kit.lean ====
/- What the run of the down product's body needs of the launch: the windows' staging memrefs and the scratch buffers as
   memrefs. -/
module

public import proofs.«01_k».proof.Proof.Gen.Down.Frame
public import proofs.«01_k».proof.Proof.Gen.Down.Skeleton
public import proofs.«01_k».proof.Proof.Gen.Down.Loops

@[expose] public section

set_option maxRecDepth 16384

noncomputable section

namespace Cert.Down.Mlp

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs and the scratch buffers -/

/-- Window 0's current staging memref at point `t`, and its wholeness. -/
abbrev ms0_0 (t : Fin cfg0.N) : Memref sig .tc .vmem S128x6912 .bf16 := win0_0.stage (cfg0.slots t 0)
abbrev hs0_0 (t : Fin cfg0.N) : (ms0_0 t).IsWhole := hstage0_0 ((cfg0.slots t 0).cast nbuf0_0)
/-- Window 1's current staging memref at point `t`, and its wholeness. -/
abbrev ms0_1 (t : Fin cfg0.N) : Memref sig .tc .vmem S6912x2560 .bf16 := win0_1.stage (cfg0.slots t 1)
abbrev hs0_1 (t : Fin cfg0.N) : (ms0_1 t).IsWhole := hstage0_1 ((cfg0.slots t 1).cast nbuf0_1)
/-- Window 2's current staging memref at point `t`, and its wholeness. -/
abbrev ms0_2 (t : Fin cfg0.N) : Memref sig .tc .vmem S128x4x2560 .fp8e4m3 := win0_2.stage (cfg0.slots t 2)
abbrev hs0_2 (t : Fin cfg0.N) : (ms0_2 t).IsWhole := hstage0_2 ((cfg0.slots t 2).cast nbuf0_2)
/-- Window 3's current staging memref at point `t`, and its wholeness. -/
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
/-- Window 4's current staging memref at point `t`, and its wholeness. -/
abbrev ms0_4 (t : Fin cfg0.N) : Memref sig .tc .vmem S4x128x128 .f32 := win0_4.stage (cfg0.slots t 4)
abbrev hs0_4 (t : Fin cfg0.N) : (ms0_4 t).IsWhole := hstage0_4 ((cfg0.slots t 4).cast nbuf0_4)
/-- Window 5's current staging memref at point `t`, and its wholeness. -/
abbrev ms0_5 (t : Fin cfg0.N) : Memref sig .tc .vmem S1x128x2560 .bf16 := win0_5.stage (cfg0.slots t 5)
abbrev hs0_5 (t : Fin cfg0.N) : (ms0_5 t).IsWhole := hstage0_5 ((cfg0.slots t 5).cast nbuf0_5)
/-- Window 6's current staging memref at point `t`, and its wholeness. -/
abbrev ms0_6 (t : Fin cfg0.N) : Memref sig .tc .vmem S128x4x2560 .fp8e4m3 := win0_6.stage (cfg0.slots t 6)
abbrev hs0_6 (t : Fin cfg0.N) : (ms0_6 t).IsWhole := hstage0_6 ((cfg0.slots t 6).cast nbuf0_6)
/-- Window 7's current staging memref at point `t`, and its wholeness. -/
abbrev ms0_7 (t : Fin cfg0.N) : Memref sig .tc .vmem S1x20x4x128 .f32 := win0_7.stage (cfg0.slots t 7)
abbrev hs0_7 (t : Fin cfg0.N) : (ms0_7 t).IsWhole := hstage0_7 ((cfg0.slots t 7).cast nbuf0_7)
/-- Scratch buffer 0 as a memref. -/
abbrev scM0_0 : Memref sig .tc .vmem S128x2560 .f32 := Memref.whole cc0_scratch0
/-- Scratch buffer 1 as a memref. -/
abbrev scM0_1 : Memref sig .tc .vmem S640x128 .f32 := Memref.whole cc0_scratch1
/-- Scratch buffer 2 as a memref. -/
abbrev scM0_2 : Memref sig .tc .vmem S4x160x128 .f32 := Memref.whole cc0_scratch2
/-- Scratch buffer 3 as a memref. -/
abbrev scM0_3 : Memref sig .tc .vmem S4x128x128 .f32 := Memref.whole cc0_scratch3

/-- The pipeline's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! No window is idle at any point. -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

end Cert.Down.Mlp

end
-- ==== Proof.MlpF.Loop.lean ====
/- The loop over the sixteen groups of eight tokens, of which the claims say only that it runs: each trip reads the streams'
   codes, coefficients and scales, and leaves the new codes and the scratch buffers at some contents. -/
module

public import proofs.«01_k».proof.Proof.MlpF.Kit

@[expose] public section

set_option maxRecDepth 16384

noncomputable section

namespace Cert.Down.Mlp

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
set_option maxHeartbeats 16000000 in
/-- The loop's invariant: the three inputs at their contents, every buffer that the loop works on at some contents. -/
@[sl_loop] def loopInv (c : Dev nD) (E : Set ℕ) (i : grid0.Coords) (arg2 : Memref sig .tc .vmem S128x6912 .bf16) (harg2 : arg2.IsWhole) (arg3 : Memref sig .tc .vmem S6912x2560 .bf16) (harg3 : arg3.IsWhole) (arg4 : Memref sig .tc .vmem S128x4x2560 .fp8e4m3) (harg4 : arg4.IsWhole) (arg5 : Memref sig .tc .vmem S128x128 .f32) (harg5 : arg5.IsWhole) (arg6 : Memref sig .tc .vmem S4x128x128 .f32) (harg6 : arg6.IsWhole) (arg7 : Memref sig .tc .vmem S1x128x2560 .bf16) (harg7 : arg7.IsWhole) (arg8 : Memref sig .tc .vmem S128x4x2560 .fp8e4m3) (harg8 : arg8.IsWhole) (arg9 : Memref sig .tc .vmem S1x20x4x128 .f32) (harg9 : arg9.IsWhole) (arg10 : Memref sig .tc .vmem S128x2560 .f32) (harg10 : arg10.IsWhole) (arg11 : Memref sig .tc .vmem S640x128 .f32) (harg11 : arg11.IsWhole) (arg12 : Memref sig .tc .vmem S4x160x128 .f32) (harg12 : arg12.IsWhole) (arg13 : Memref sig .tc .vmem S4x128x128 .f32) (harg13 : arg13.IsWhole) (v0 : IVec S8x128 32)
    (x2 : Vec F S128x4x2560 .fp8e4m3) (x3 : Vec F S128x128 .f32) (x4 : Vec F S4x128x128 .f32) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 v0 where
  inv _ _ := iprop((arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (∃ f, arg8.view.loc (c : Thread nD τ) ↦[arg8.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f))
  step k _ := by
    sl_unfold [k0_t1_body]
    simp only [k0_part90_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    iintro ⟨H2, H3, H4, ⟨%f6, H6⟩, ⟨%s0, HS0⟩, ⟨%s1, HS1⟩, ⟨%s2, HS2⟩, ⟨%s3, HS3⟩⟩
    sl_exec
    sl_step
    isplitl [H2]
    · iexact H2
    isplitl [H3]
    · iexact H3
    isplitl [H4]
    · iexact H4
    isplitl [H6]
    · iexists _; iexact H6
    isplitl [HS0]
    · iexists _; iexact HS0
    isplitl [HS1]
    · iexists _; iexact HS1
    isplitl [HS2]
    · iexists _; iexact HS2
    iexists _; iexact HS3

end Cert.Down.Mlp

end
-- ==== Proof.MlpF.Run.lean ====
/- The run of the down product's body: the pieces that its ten stores leave in the block of the product, and the body's triple,
   which says nothing of the other buffers that it writes. -/
module

public import proofs.«01_k».proof.Proof.MlpF.Loop

@[expose] public section

set_option maxRecDepth 16384

noncomputable section

namespace Cert.Down.Mlp

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the block of the product, as pieces (last first), with the body's triple: from the inputs'
    blocks `x0`, …, `x4` and the other buffers at anything, the body runs and leaves the pieces written. -/
def kernelRun (c : Dev nD) (i : grid0.Coords) (arg2 : Memref sig .tc .vmem S128x6912 .bf16) (harg2 : arg2.IsWhole) (arg3 : Memref sig .tc .vmem S6912x2560 .bf16) (harg3 : arg3.IsWhole) (arg4 : Memref sig .tc .vmem S128x4x2560 .fp8e4m3) (harg4 : arg4.IsWhole) (arg5 : Memref sig .tc .vmem S128x128 .f32) (harg5 : arg5.IsWhole) (arg6 : Memref sig .tc .vmem S4x128x128 .f32) (harg6 : arg6.IsWhole) (arg7 : Memref sig .tc .vmem S1x128x2560 .bf16) (harg7 : arg7.IsWhole) (arg8 : Memref sig .tc .vmem S128x4x2560 .fp8e4m3) (harg8 : arg8.IsWhole) (arg9 : Memref sig .tc .vmem S1x20x4x128 .f32) (harg9 : arg9.IsWhole) (arg10 : Memref sig .tc .vmem S128x2560 .f32) (harg10 : arg10.IsWhole) (arg11 : Memref sig .tc .vmem S640x128 .f32) (harg11 : arg11.IsWhole) (arg12 : Memref sig .tc .vmem S4x160x128 .f32) (harg12 : arg12.IsWhole) (arg13 : Memref sig .tc .vmem S4x128x128 .f32) (harg13 : arg13.IsWhole)
    (x0 : Vec F S128x6912 .bf16) (x1 : Vec F S6912x2560 .bf16) (x2 : Vec F S128x4x2560 .fp8e4m3) (x3 : Vec F S128x128 .f32) (x4 : Vec F S4x128x128 .f32) :
    { L5 : List (View.Piece (Elt F) S1x128x2560 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_mhc_down i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_mhc_down_eq_skeleton]; unfold cc0_mhc_down_skel
    simp only [k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Down.Mlp

end
-- ==== Proof.MlpF.Frame.lean ====
/- The down product runs and leaves its arguments unchanged, at any reading of the floats; nothing is said of its results. -/
module

public import proofs.«01_k».proof.Proof.MlpF.Run
public import Idealize.ShloMosaic.Lib.Claim

@[expose] public section

set_option maxRecDepth 16384

noncomputable section

namespace Cert.Down.Mlp

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows whose contents are not named. -/
def forgets0 : Fin 8 → Bool := fun w => w.val == 5 || w.val == 6 || w.val == 7

/-- The proof data of the pipeline on core `c`: the arrays as the region finds them; after the body at point `t` each input's
    buffer at its block, and nothing named of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region's entry contents. -/
theorem A_eq (c : Dev nD) (w : Fin cfg0.W) : (dats m 0 c).A w = V m c (Pipeline.arrRef spec0 w) := by
  dsimp only [dats]

/-! What the body leaves in each named buffer. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-! Each input's current staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, ⟨%e5, H5⟩, H6, H7, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; unfold owns; iexists _; isplitr; swap; · iexact H5
    ipureintro; rfl
  isplitl [H6]; · iexact H6
  iexact H7

/-- The body at point `t`'s slots, spelled out. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- `run_main`, and every semaphore counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters, every run of the program ends with the pipeline's input arrays unchanged and every other
    buffer outside its region as at entry. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every run ends with the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c))⟩) (run_main m ρ)

/-- Every run ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Down.Mlp

end
-- ==== Proof.Mlp.Kit.lean ====
/- What the run of the down product's body needs of the launch: the windows' staging memrefs and the scratch buffers as
   memrefs. -/
module

public import proofs.«01_k».proof.Proof.Gen.DownIdeal.Frame
public import proofs.«01_k».proof.Proof.Gen.DownIdeal.Skeleton
public import proofs.«01_k».proof.Proof.Gen.DownIdeal.Loops

@[expose] public section

set_option maxRecDepth 16384

noncomputable section

namespace Cert.DownIdeal.Mlp

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs and the scratch buffers -/

/-- Window 0's current staging memref at point `t`, and its wholeness. -/
abbrev ms0_0 (t : Fin cfg0.N) : Memref sig .tc .vmem S128x6912 .bf16 := win0_0.stage (cfg0.slots t 0)
abbrev hs0_0 (t : Fin cfg0.N) : (ms0_0 t).IsWhole := hstage0_0 ((cfg0.slots t 0).cast nbuf0_0)
/-- Window 1's current staging memref at point `t`, and its wholeness. -/
abbrev ms0_1 (t : Fin cfg0.N) : Memref sig .tc .vmem S6912x2560 .bf16 := win0_1.stage (cfg0.slots t 1)
abbrev hs0_1 (t : Fin cfg0.N) : (ms0_1 t).IsWhole := hstage0_1 ((cfg0.slots t 1).cast nbuf0_1)
/-- Window 2's current staging memref at point `t`, and its wholeness. -/
abbrev ms0_2 (t : Fin cfg0.N) : Memref sig .tc .vmem S128x4x2560 .fp8e4m3 := win0_2.stage (cfg0.slots t 2)
abbrev hs0_2 (t : Fin cfg0.N) : (ms0_2 t).IsWhole := hstage0_2 ((cfg0.slots t 2).cast nbuf0_2)
/-- Window 3's current staging memref at point `t`, and its wholeness. -/
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
/-- Window 4's current staging memref at point `t`, and its wholeness. -/
abbrev ms0_4 (t : Fin cfg0.N) : Memref sig .tc .vmem S4x128x128 .f32 := win0_4.stage (cfg0.slots t 4)
abbrev hs0_4 (t : Fin cfg0.N) : (ms0_4 t).IsWhole := hstage0_4 ((cfg0.slots t 4).cast nbuf0_4)
/-- Window 5's current staging memref at point `t`, and its wholeness. -/
abbrev ms0_5 (t : Fin cfg0.N) : Memref sig .tc .vmem S1x128x2560 .bf16 := win0_5.stage (cfg0.slots t 5)
abbrev hs0_5 (t : Fin cfg0.N) : (ms0_5 t).IsWhole := hstage0_5 ((cfg0.slots t 5).cast nbuf0_5)
/-- Window 6's current staging memref at point `t`, and its wholeness. -/
abbrev ms0_6 (t : Fin cfg0.N) : Memref sig .tc .vmem S128x4x2560 .fp8e4m3 := win0_6.stage (cfg0.slots t 6)
abbrev hs0_6 (t : Fin cfg0.N) : (ms0_6 t).IsWhole := hstage0_6 ((cfg0.slots t 6).cast nbuf0_6)
/-- Window 7's current staging memref at point `t`, and its wholeness. -/
abbrev ms0_7 (t : Fin cfg0.N) : Memref sig .tc .vmem S1x20x4x128 .f32 := win0_7.stage (cfg0.slots t 7)
abbrev hs0_7 (t : Fin cfg0.N) : (ms0_7 t).IsWhole := hstage0_7 ((cfg0.slots t 7).cast nbuf0_7)
/-- Scratch buffer 0 as a memref. -/
abbrev scM0_0 : Memref sig .tc .vmem S128x2560 .f32 := Memref.whole cc0_scratch0
/-- Scratch buffer 1 as a memref. -/
abbrev scM0_1 : Memref sig .tc .vmem S640x128 .f32 := Memref.whole cc0_scratch1
/-- Scratch buffer 2 as a memref. -/
abbrev scM0_2 : Memref sig .tc .vmem S4x160x128 .f32 := Memref.whole cc0_scratch2
/-- Scratch buffer 3 as a memref. -/
abbrev scM0_3 : Memref sig .tc .vmem S4x128x128 .f32 := Memref.whole cc0_scratch3

/-- The pipeline's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! No window is idle at any point. -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

end Cert.DownIdeal.Mlp

end
-- ==== Proof.Mlp.Loop.lean ====
/- The loop over the sixteen groups of eight tokens, of which the claims say only that it runs: each trip reads the streams'
   codes, coefficients and scales, and leaves the new codes and the scratch buffers at some contents. -/
module

public import proofs.«01_k».proof.Proof.Mlp.Kit

@[expose] public section

set_option maxRecDepth 16384

noncomputable section

namespace Cert.DownIdeal.Mlp

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
set_option maxHeartbeats 16000000 in
/-- The loop's invariant: the three inputs at their contents, every buffer that the loop works on at some contents. -/
@[sl_loop] def loopInv (c : Dev nD) (E : Set ℕ) (i : grid0.Coords) (arg2 : Memref sig .tc .vmem S128x6912 .bf16) (harg2 : arg2.IsWhole) (arg3 : Memref sig .tc .vmem S6912x2560 .bf16) (harg3 : arg3.IsWhole) (arg4 : Memref sig .tc .vmem S128x4x2560 .fp8e4m3) (harg4 : arg4.IsWhole) (arg5 : Memref sig .tc .vmem S128x128 .f32) (harg5 : arg5.IsWhole) (arg6 : Memref sig .tc .vmem S4x128x128 .f32) (harg6 : arg6.IsWhole) (arg7 : Memref sig .tc .vmem S1x128x2560 .bf16) (harg7 : arg7.IsWhole) (arg8 : Memref sig .tc .vmem S128x4x2560 .fp8e4m3) (harg8 : arg8.IsWhole) (arg9 : Memref sig .tc .vmem S1x20x4x128 .f32) (harg9 : arg9.IsWhole) (arg10 : Memref sig .tc .vmem S128x2560 .f32) (harg10 : arg10.IsWhole) (arg11 : Memref sig .tc .vmem S640x128 .f32) (harg11 : arg11.IsWhole) (arg12 : Memref sig .tc .vmem S4x160x128 .f32) (harg12 : arg12.IsWhole) (arg13 : Memref sig .tc .vmem S4x128x128 .f32) (harg13 : arg13.IsWhole) (v0 : IVec S8x128 32)
    (x2 : Vec F S128x4x2560 .fp8e4m3) (x3 : Vec F S128x128 .f32) (x4 : Vec F S4x128x128 .f32) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 v0 where
  inv _ _ := iprop((arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (∃ f, arg8.view.loc (c : Thread nD τ) ↦[arg8.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f))
  step k _ := by
    sl_unfold [k0_t1_body]
    simp only [k0_part90_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    iintro ⟨H2, H3, H4, ⟨%f6, H6⟩, ⟨%s0, HS0⟩, ⟨%s1, HS1⟩, ⟨%s2, HS2⟩, ⟨%s3, HS3⟩⟩
    sl_exec
    sl_step
    isplitl [H2]
    · iexact H2
    isplitl [H3]
    · iexact H3
    isplitl [H4]
    · iexact H4
    isplitl [H6]
    · iexists _; iexact H6
    isplitl [HS0]
    · iexists _; iexact HS0
    isplitl [HS1]
    · iexists _; iexact HS1
    isplitl [HS2]
    · iexists _; iexact HS2
    iexists _; iexact HS3

end Cert.DownIdeal.Mlp

end
-- ==== Proof.Mlp.Run.lean ====
/- The run of the down product's body: the pieces that its ten stores leave in the block of the product, and the body's triple,
   which says nothing of the other buffers that it writes. -/
module

public import proofs.«01_k».proof.Proof.Mlp.Loop

@[expose] public section

set_option maxRecDepth 16384

noncomputable section

namespace Cert.DownIdeal.Mlp

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the block of the product, as pieces (last first), with the body's triple: from the inputs'
    blocks `x0`, …, `x4` and the other buffers at anything, the body runs and leaves the pieces written. -/
def kernelRun (c : Dev nD) (i : grid0.Coords) (arg2 : Memref sig .tc .vmem S128x6912 .bf16) (harg2 : arg2.IsWhole) (arg3 : Memref sig .tc .vmem S6912x2560 .bf16) (harg3 : arg3.IsWhole) (arg4 : Memref sig .tc .vmem S128x4x2560 .fp8e4m3) (harg4 : arg4.IsWhole) (arg5 : Memref sig .tc .vmem S128x128 .f32) (harg5 : arg5.IsWhole) (arg6 : Memref sig .tc .vmem S4x128x128 .f32) (harg6 : arg6.IsWhole) (arg7 : Memref sig .tc .vmem S1x128x2560 .bf16) (harg7 : arg7.IsWhole) (arg8 : Memref sig .tc .vmem S128x4x2560 .fp8e4m3) (harg8 : arg8.IsWhole) (arg9 : Memref sig .tc .vmem S1x20x4x128 .f32) (harg9 : arg9.IsWhole) (arg10 : Memref sig .tc .vmem S128x2560 .f32) (harg10 : arg10.IsWhole) (arg11 : Memref sig .tc .vmem S640x128 .f32) (harg11 : arg11.IsWhole) (arg12 : Memref sig .tc .vmem S4x160x128 .f32) (harg12 : arg12.IsWhole) (arg13 : Memref sig .tc .vmem S4x128x128 .f32) (harg13 : arg13.IsWhole)
    (x0 : Vec F S128x6912 .bf16) (x1 : Vec F S6912x2560 .bf16) (x2 : Vec F S128x4x2560 .fp8e4m3) (x3 : Vec F S128x128 .f32) (x4 : Vec F S4x128x128 .f32) :
    { L5 : List (View.Piece (Elt F) S1x128x2560 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_mhc_down i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_mhc_down_eq_skeleton]; unfold cc0_mhc_down_skel
    simp only [k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.DownIdeal.Mlp

end
-- ==== Proof.Mlp.Block.lean ====
/- The pieces of the product's block, and the block that they leave: the product of the rows of the hidden activations and the
   weight matrix, over the extended reals. -/
module

public import proofs.«01_k».proof.Proof.Mlp.Run
public import Idealize.ShloMosaic.Lib.Pointwise
public import Idealize.ShloMosaic.Lib.Pipeline.ValueKit

@[expose] public section

set_option maxRecDepth 16384

noncomputable section

namespace Cert.DownIdeal.Mlp

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Generic
variable {F : FTy → Type} [FloatOps F]

/-- 256 columns of the product, rounded. -/
def tileF (h : Vec F S128x6912 .bf16) (w : Vec F S6912x256 .bf16) : FVec F S1x128x256 .bf16 :=
  shapeCast S1x128x256 (truncf .bf16 (matmul dot_S128x6912_S6912x256_S128x256_1_0_0_1_n_n none h w (constant S128x256 .f32 0x00000000#32)) bitsLt_bf16_f32)
    shapeCasts_S128x256_S1x128x256

theorem inbW : ∀ (n : Fin 10) (a), (![0, 256 * n.val] : Fin 2 → Nat) a + S6912x256.size a ≤ S6912x2560.size a := by decide +kernel
theorem inb5 : ∀ (n : Fin 10) (a), (![0, 0, 256 * n.val] : Fin 3 → Nat) a + S1x128x256.size a ≤ S1x128x2560.size a := by decide +kernel

/-- The rows of the hidden activations, as they are loaded. -/
def hLoad (ma : Memref sig .tc .vmem S128x6912 .bf16) (hma : ma.IsWhole) (x : Vec F S128x6912 .bf16) : Vec F S128x6912 .bf16 :=
  View.readAt (Elt F) ma.view (Rect.unit (s := S128x6912) ![0, 0] S128x6912.size inb_S128x6912_S128x6912_0_0).toLoadRect (hma.unread x)

/-- Columns `256 n` on of the weights, as they are loaded. -/
def wLoad (mw : Memref sig .tc .vmem S6912x2560 .bf16) (hmw : mw.IsWhole) (x : Vec F S6912x2560 .bf16) (n : Fin 10) : Vec F S6912x256 .bf16 :=
  View.readAt (Elt F) mw.view (Rect.unit (s := S6912x2560) ![0, 256 * n.val] S6912x256.size (inbW n)).toLoadRect (hmw.unread x)

/-- The blocks of columns, the last first. -/
def steps : List (Fin 10) := [9, 8, 7, 6, 5, 4, 3, 2, 1, 0]

/-- The stores of the product. -/
def L5 (ma : Memref sig .tc .vmem S128x6912 .bf16) (hma : ma.IsWhole) (mw : Memref sig .tc .vmem S6912x2560 .bf16) (hmw : mw.IsWhole)
    (x : Vec F S128x6912 .bf16) (w : Vec F S6912x2560 .bf16) : List (View.Piece (Elt F) S1x128x2560 .bf16) :=
  steps.map fun n => ⟨Rect.unit ![0, 0, 256 * n.val] S1x128x256.size (inb5 n), tileF (hLoad ma hma x) (wLoad mw hmw w n)⟩

theorem run_L5 (c : Dev nD) (i : grid0.Coords) (arg2 : Memref sig .tc .vmem S128x6912 .bf16) (harg2 : arg2.IsWhole) (arg3 : Memref sig .tc .vmem S6912x2560 .bf16) (harg3 : arg3.IsWhole) (arg4 : Memref sig .tc .vmem S128x4x2560 .fp8e4m3) (harg4 : arg4.IsWhole) (arg5 : Memref sig .tc .vmem S128x128 .f32) (harg5 : arg5.IsWhole) (arg6 : Memref sig .tc .vmem S4x128x128 .f32) (harg6 : arg6.IsWhole) (arg7 : Memref sig .tc .vmem S1x128x2560 .bf16) (harg7 : arg7.IsWhole) (arg8 : Memref sig .tc .vmem S128x4x2560 .fp8e4m3) (harg8 : arg8.IsWhole) (arg9 : Memref sig .tc .vmem S1x20x4x128 .f32) (harg9 : arg9.IsWhole) (arg10 : Memref sig .tc .vmem S128x2560 .f32) (harg10 : arg10.IsWhole) (arg11 : Memref sig .tc .vmem S640x128 .f32) (harg11 : arg11.IsWhole) (arg12 : Memref sig .tc .vmem S4x160x128 .f32) (harg12 : arg12.IsWhole) (arg13 : Memref sig .tc .vmem S4x128x128 .f32) (harg13 : arg13.IsWhole)
    (x0 : Vec F S128x6912 .bf16) (x1 : Vec F S6912x2560 .bf16) (x2 : Vec F S128x4x2560 .fp8e4m3) (x3 : Vec F S128x128 .f32) (x4 : Vec F S4x128x128 .f32) :
    (kernelRun c i arg2 harg2 arg3 harg3 arg4 harg4 arg5 harg5 arg6 harg6 arg7 harg7 arg8 harg8 arg9 harg9 arg10 harg10 arg11 harg11 arg12 harg12 arg13 harg13 x0 x1 x2 x3 x4).1 = L5 arg2 harg2 arg3 harg3 x0 x1 := by sl_kernel_rfl

end Generic

/-- The product of the rows of `A` and the columns of `W`. -/
def prod (A : Fin 12288 → Fin 6912 → EReal) (W : Fin 6912 → Fin 2560 → EReal) (r : Fin 12288) (j : Fin 2560) : EReal :=
  ∑ k : Fin 6912, A r k * W k j

theorem tileF_at (h : Vec Ideal S128x6912 .bf16) (w : Vec Ideal S6912x256 .bf16) (r : Fin 128) (j : Fin 256) :
    tileF h w (ix3 0 r j) = ∑ k : Fin 6912, h (ix2 r k) * w (ix2 k j) := by
  unfold tileF
  pointwise

theorem hLoad_at (ma : Memref sig .tc .vmem S128x6912 .bf16) (hma : ma.IsWhole) (x : Vec Ideal S128x6912 .bf16)
    (r : Fin 128) (k : Fin 6912) : hLoad ma hma x (ix2 r k) = x (ix2 r k) := by
  unfold hLoad
  rw [View.readAt_apply, hma.read_unread]
  refine congrArg x (funext fun a => Fin.ext ?_)
  match a with
  | ⟨0, _⟩ => show 0 + 1 * r.val = r.val; omega
  | ⟨1, _⟩ => show 0 + 1 * k.val = k.val; omega

theorem wLoad_at (mw : Memref sig .tc .vmem S6912x2560 .bf16) (hmw : mw.IsWhole) (x : Vec Ideal S6912x2560 .bf16) (n : Fin 10)
    (k : Fin 6912) (j : Fin 256) : wLoad mw hmw x n (ix2 k j) = x (ix2 k ⟨256 * n.val + j.val, by omega⟩) := by
  unfold wLoad
  rw [View.readAt_apply, hmw.read_unread]
  refine congrArg x (funext fun a => Fin.ext ?_)
  match a with
  | ⟨0, _⟩ => show 0 + 1 * k.val = k.val; omega
  | ⟨1, _⟩ => show 256 * n.val + 1 * j.val = 256 * n.val + j.val; omega

/-- The stores leave the product of the block's rows. -/
theorem read_L5 (ma : Memref sig .tc .vmem S128x6912 .bf16) (hma : ma.IsWhole) (mw : Memref sig .tc .vmem S6912x2560 .bf16) (hmw : mw.IsWhole)
    (x : Vec Ideal S128x6912 .bf16) (w : Vec Ideal S6912x2560 .bf16) (G : Vec Ideal S1x128x2560 .bf16)
    (hG : ∀ (r : Fin 128) (j : Fin 2560), G (ix3 0 r j) = ∑ k : Fin 6912, x (ix2 r k) * w (ix2 k j))
    (m : Memref sig .tc .vmem S1x128x2560 .bf16) (f : m.view.ty.Contents (Elt Ideal)) :
    m.view.read (Elt Ideal) (m.view.writes (Elt Ideal) f (L5 ma hma mw hmw x w)) = G := by
  funext y
  refine View.read_writes_apply_of_pieces _ _ G _ (fun p hp z => ?_) y ?_
  · obtain ⟨n, -, rfl⟩ := List.mem_map.mp hp
    obtain ⟨r, j, rfl⟩ : ∃ (r : Fin 128) (j : Fin 256), z = ix3 0 r j :=
      ⟨z 1, z 2, (eq_ix3 z).trans (congrArg (fun a => ix3 a (z 1) (z 2)) (Fin.eq_zero (z 0)))⟩
    refine (tileF_at _ _ r j).trans ?_
    have e : (Rect.unit (s := S1x128x2560) ![0, 0, 256 * n.val] S1x128x256.size (inb5 n)).idx (ix3 0 r j) = ix3 0 r ⟨256 * n.val + j.val, by omega⟩ := by
      refine funext fun a => Fin.ext ?_
      match a with
      | ⟨0, _⟩ => rfl
      | ⟨1, _⟩ => show 0 + 1 * r.val = r.val; omega
      | ⟨2, _⟩ => show 256 * n.val + 1 * j.val = 256 * n.val + j.val; omega
    refine Eq.trans ?_ (congrArg G e).symm
    rw [hG]
    refine Finset.sum_congr rfl fun k _ => ?_
    rw [hLoad_at, wLoad_at]
  · have h0 : (y 0).val < 1 := (y 0).isLt
    have h1 : (y 1).val < 128 := (y 1).isLt
    have h2 : (y 2).val < 2560 := (y 2).isLt
    refine ⟨_, List.mem_map.mpr ⟨⟨(y 2).val / 256, by omega⟩, (show ∀ n, n ∈ steps by decide) _, rfl⟩, ?_⟩
    rw [Rect.mem_set_unit]
    intro a
    match a with
    | ⟨0, _⟩ => show 0 ≤ (y 0).val ∧ (y 0).val < 0 + 1; omega
    | ⟨1, _⟩ => show 0 ≤ (y 1).val ∧ (y 1).val < 0 + 128; omega
    | ⟨2, _⟩ => show 256 * ((y 2).val / 256) ≤ (y 2).val ∧ (y 2).val < 256 * ((y 2).val / 256) + 256; omega

local notation "𝕄" => MT nD τ sig Unit (Elt Ideal) ℕ (UR sig nD τ) ℕ

/-- The body's triple with the block of the product named: `G`, any array that is the product of the rows `A` and the weights `W`. -/
theorem step (c : Dev nD) (i : grid0.Coords) (arg2 : Memref sig .tc .vmem S128x6912 .bf16) (harg2 : arg2.IsWhole) (arg3 : Memref sig .tc .vmem S6912x2560 .bf16) (harg3 : arg3.IsWhole) (arg4 : Memref sig .tc .vmem S128x4x2560 .fp8e4m3) (harg4 : arg4.IsWhole) (arg5 : Memref sig .tc .vmem S128x128 .f32) (harg5 : arg5.IsWhole) (arg6 : Memref sig .tc .vmem S4x128x128 .f32) (harg6 : arg6.IsWhole) (arg7 : Memref sig .tc .vmem S1x128x2560 .bf16) (harg7 : arg7.IsWhole) (arg8 : Memref sig .tc .vmem S128x4x2560 .fp8e4m3) (harg8 : arg8.IsWhole) (arg9 : Memref sig .tc .vmem S1x20x4x128 .f32) (harg9 : arg9.IsWhole) (arg10 : Memref sig .tc .vmem S128x2560 .f32) (harg10 : arg10.IsWhole) (arg11 : Memref sig .tc .vmem S640x128 .f32) (harg11 : arg11.IsWhole) (arg12 : Memref sig .tc .vmem S4x160x128 .f32) (harg12 : arg12.IsWhole) (arg13 : Memref sig .tc .vmem S4x128x128 .f32) (harg13 : arg13.IsWhole)
    (x0 : Vec Ideal S128x6912 .bf16) (x1 : Vec Ideal S6912x2560 .bf16) (x2 : Vec Ideal S128x4x2560 .fp8e4m3) (x3 : Vec Ideal S128x128 .f32) (x4 : Vec Ideal S4x128x128 .f32) (G : Vec Ideal S1x128x2560 .bf16)
    {A : Fin 128 → Fin 6912 → EReal} {W : Fin 6912 → Fin 2560 → EReal}
    (hA : ∀ (r : Fin 128) (k : Fin 6912), x0 (ix2 r k) = A r k) (hW : ∀ (k : Fin 6912) (j : Fin 2560), x1 (ix2 k j) = W k j)
    (hG : ∀ (r : Fin 128) (j : Fin 2560), G (ix3 0 r j) = ∑ k : Fin 6912, A r k * W k j)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare G ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) E (cc0_mhc_down i arg2 harg2 arg3 harg3 arg4 harg4 arg5 harg5 arg6 harg6 arg7 harg7 arg8 harg8 arg9 harg9 arg10 harg10 arg11 harg11 arg12 harg12 arg13 harg13) K := by
  iintro ⟨H0, H1, H2, H3, H4, H5, H6, H7, S0, S1, S2, S3, Hk⟩
  iapply ((kernelRun c i arg2 harg2 arg3 harg3 arg4 harg4 arg5 harg5 arg6 harg6 arg7 harg7 arg8 harg8 arg9 harg9 arg10 harg10 arg11 harg11 arg12 harg12 arg13 harg13 x0 x1 x2 x3 x4).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  iintro ⟨H0, H1, H2, H3, H4, ⟨%e5, H5⟩, H6, H7, S0, S1, S2, S3⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [run_L5]
    refine read_L5 arg2 harg2 arg3 harg3 x0 x1 G (fun r j => (hG r j).trans (Finset.sum_congr rfl fun k _ => ?_)) arg7 _
    rw [hA, hW]
  isplitl [H6]; · iexact H6
  isplitl [H7]; · iexact H7
  isplitl [S0]; · iexact S0
  isplitl [S1]; · iexact S1
  isplitl [S2]; · iexact S2
  iexact S3

/-! ## The blocks of the arguments -/

variable (m : (ℓ : Loc nD τ sig) → Buf (Elt Ideal) ℓ)

theorem idx_0 : ∀ t : Fin cfg0.N, win0_0.index t = ![t.val, 0] :=
  (by decide +kernel : ∀ t : Fin grid0.N, win0_0.index t = ![t.val, 0])
theorem idx_1 : ∀ t : Fin cfg0.N, win0_1.index t = ![0, 0] :=
  (by decide +kernel : ∀ t : Fin grid0.N, win0_1.index t = ![0, 0])
theorem idx_5 : ∀ t : Fin cfg0.N, win0_5.index t = ![t.val / 8, t.val % 8, 0] :=
  (by decide +kernel : ∀ t : Fin grid0.N, win0_5.index t = ![t.val / 8, t.val % 8, 0])

/-- The number of points. -/
theorem lt_N (t : Fin cfg0.N) : t.val < 96 := Nat.lt_of_lt_of_eq t.isLt N_0

/-- The hidden activations as core `c`'s memory holds them. -/
def argA (c : Dev nD) (r : Fin 12288) (k : Fin 6912) : EReal := (m ((c : Thread nD τ).loc main_arg0) : Vec Ideal S12288x6912 .bf16) (ix2 r k)
/-- The weights as core `c`'s memory holds them. -/
def argW (c : Dev nD) (k : Fin 6912) (j : Fin 2560) : EReal := (m ((c : Thread nD τ).loc main_arg1) : Vec Ideal S6912x2560 .bf16) (ix2 k j)

theorem iblk0_at (c : Dev nD) (t : Fin cfg0.N) (r : Fin 128) (k : Fin 6912) :
    (iblk m c 0 t : Vec Ideal S128x6912 .bf16) (ix2 r k) = argA m c ⟨128 * t.val + r.val, by have h := lt_N t; omega⟩ k := by
  unfold argA
  blk_ext [iblk, V, idx_0]
theorem iblk1_at (c : Dev nD) (t : Fin cfg0.N) (k : Fin 6912) (j : Fin 2560) :
    (iblk m c 1 t : Vec Ideal S6912x2560 .bf16) (ix2 k j) = argW m c k j := by
  unfold argW
  blk_ext [iblk, V, idx_1]

/-- The block of the product at point `t`. -/
def G5 (c : Dev nD) (t : Fin cfg0.N) : Vec Ideal S1x128x2560 .bf16 := fun y =>
  prod (argA m c) (argW m c) ⟨128 * t.val + (y 1).val, by have h := lt_N t; have h1 : (y 1).val < 128 := (y 1).isLt; omega⟩ (y 2)

theorem G5_at (c : Dev nD) (t : Fin cfg0.N) (r : Fin 128) (j : Fin 2560) :
    G5 m c t (ix3 0 r j) = ∑ k : Fin 6912, argA m c ⟨128 * t.val + r.val, by have h := lt_N t; omega⟩ k * argW m c k j := rfl

end Cert.DownIdeal.Mlp

end
-- ==== Proof.Mlp.Body.lean ====
/- The down product's pipeline: what every point leaves in the block of the product, the body's obligation, the run and the frame. -/
module

public import proofs.«01_k».proof.Proof.Mlp.Block

@[expose] public section

set_option maxRecDepth 16384

noncomputable section

namespace Cert.DownIdeal.Mlp

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The output windows whose contents are not named. -/
def forgets0 : Fin 8 → Bool := fun w => w.val == 6 || w.val == 7

/-- The proof data of the pipeline on core `c`: the arrays as the region finds them; after the body at point `t` each input's
    buffer at its block, the block of the product at the block of the specified array, and nothing named of the other outputs. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => G5 m c t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region's entry contents. -/
theorem A_eq (c : Dev nD) (w : Fin cfg0.W) : (dats m 0 c).A w = V m c (Pipeline.arrRef spec0 w) := by
  dsimp only [dats]

/-! What the body leaves in each named buffer. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = G5 m c t := by dsimp only [dats]

/-! Each input's current staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 2400000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (step c (grid0.coords t) _ _ _ _ _ _ _ _ _ _ _ _ _ _ _ _ _ _ _ _ _ _ _ _ (iblk m c 0 t) (iblk m c 1 t) (iblk m c 2 t) (iblk m c 3 t) (iblk m c 4 t) (G5 m c t)
    (iblk0_at m c t) (iblk1_at m c t) (G5_at m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at point `t`'s slots, spelled out. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- `run_main`, and every semaphore counter at zero at the end. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters, every run of the program ends with the pipeline's input arrays unchanged and every other
    buffer outside its region as at entry. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- Every run ends with the arguments unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c))⟩) (run_main m ρ)

/-- Every run ends with the arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.DownIdeal.Mlp

end
-- ==== Proof.Mlp.Runs.lean ====
/- The down product's two programs: their runs with the result named, and their equation. -/
module

public import proofs.«01_k».proof.Proof.Mlp.Body
public import proofs.«01_k».proof.Proof.Gen.DownReferenceIdeal.Run
public import Idealize.ShloMosaic.Lib.Claim

@[expose] public section

set_option maxRecDepth 16384

noncomputable section

namespace Cert.DownIdeal.Mlp

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The specified result: row `1024 b + r` of the product, column by column. -/
def A5 (A : Fin 12288 → Fin 6912 → EReal) (W : Fin 6912 → Fin 2560 → EReal) : Vec Ideal S12x1024x2560 .bf16 := fun y =>
  prod A W ⟨1024 * (y 0).val + (y 1).val, by have h0 : (y 0).val < 12 := (y 0).isLt; have h1 : (y 1).val < 1024 := (y 1).isLt; omega⟩ (y 2)

variable (m : (ℓ : Loc nD τ sig) → Buf (Elt Ideal) ℓ) (ρ : Dev nD → PrngReg)

theorem arr_5 (c : Dev nD) : (dats m 0 c).arrAt 5 cfg0.N = A5 (argA m c) (argW m c) := by
  refine (dats m 0 c).arrAt_eq_of_covers 5 (A5 (argA m c) (argW m c)) (by decide +kernel) fun t hf y => ?_
  blk_simp
  rw [after0_5]
  unfold G5 A5
  idx_bounds y
  congr 1 <;> (refine Fin.ext ?_; blk_simp [idx_5]; (try dsimp only); try omega)

/-- Every run ends with the result the specified array of the arguments. -/
theorem run_result : θ_run defs (onTc (τ := τ) (main (F := Ideal))) ⟨m, fun _ => 0, ρ⟩ (fun r => ∀ c : Dev nD,
      r.2.mem ((c.tc : Thread nD τ).loc main_v0_0) = A5 (argA m c) (argW m c)) :=
  (θ_run defs _ _).mono (fun _ h c => (((dats m 0 c).toRForget_arrAt_iff (fgt := forgets0) (w := 5) rfl _ _).mp ((h c).1 5)).trans (arr_5 m c)) (run_main m ρ)

/-- Every run ends with the result the specified array of the arguments, and the arguments unchanged. -/
theorem run_values : θ_run defs (onTc (τ := τ) (main (F := Ideal))) ⟨m, fun _ => 0, ρ⟩ (fun r => ∀ c : Dev nD,
      r.2.mem ((c.tc : Thread nD τ).loc main_v0_0) = A5 (argA m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h.1 c, h.2 c⟩) (θ_run_and (run_result m ρ) (unchanged m ρ))

end Cert.DownIdeal.Mlp

namespace Cert.DownReferenceIdeal.Mlp

open Cert.DownReferenceIdeal.Gen
open Idealize.ShloMosaic Idealize.ShloMosaic.TcCoe Idealize.ShloMosaic.Tactic
open Idealize.SL Idealize.SL.Sem

/-- The reference's term of the hidden activations and the weights, entry by entry. -/
theorem term_at (a : Vec Ideal S12288x6912 .bf16) (w : Vec Ideal S6912x2560 .bf16) (b : Fin 12) (r : Fin 1024) (j : Fin 2560) :
    (shapeCast S12x1024x2560 (truncf .bf16 (Host.dotGeneral (F := Ideal) (φ₁ := .bf16) (φ₂ := .bf16) dot_S12288x6912_S6912x2560_S12288x2560_1_0_0_1_n_n none a w) bitsLt_bf16_f32 : FVec Ideal S12288x2560 .bf16)
      shapeCasts_S12288x2560_S12x1024x2560 : FVec Ideal S12x1024x2560 .bf16) (ix3 b r j)
      = ∑ k : Fin 6912, a (ix2 ⟨b.val * 1024 + r.val, by omega⟩ k) * w (ix2 k j) := by
  pointwise

/-- The reference's term is the specified array. -/
theorem term_eq (a : Vec Ideal S12288x6912 .bf16) (w : Vec Ideal S6912x2560 .bf16) :
    (shapeCast S12x1024x2560 (truncf .bf16 (Host.dotGeneral (F := Ideal) (φ₁ := .bf16) (φ₂ := .bf16) dot_S12288x6912_S6912x2560_S12288x2560_1_0_0_1_n_n none a w) bitsLt_bf16_f32 : FVec Ideal S12288x2560 .bf16)
      shapeCasts_S12288x2560_S12x1024x2560 : FVec Ideal S12x1024x2560 .bf16)
      = Cert.DownIdeal.Mlp.A5 (fun r k => a (ix2 r k)) (fun k j => w (ix2 k j)) := by
  funext y
  obtain ⟨b, r, j, rfl⟩ : ∃ (b : Fin 12) (r : Fin 1024) (j : Fin 2560), y = ix3 b r j := ⟨y 0, y 1, y 2, eq_ix3 y⟩
  have e : (⟨b.val * 1024 + r.val, by omega⟩ : Fin 12288) = ⟨1024 * b.val + r.val, by omega⟩ := Fin.ext (by dsimp only; omega)
  rw [term_at, e]
  rfl

variable (m : (ℓ : Loc nD τ sig) → Buf (Elt Ideal) ℓ) (ρ : Dev nD → PrngReg)

/-- Every run ends with the arguments unchanged and every semaphore counter at zero: the program has no semaphore. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, funext fun g => match g with
    | ⟨_, .reg s⟩ => absurd s.isLt (Nat.not_lt_zero _)
    | ⟨_, .dma s⟩ => absurd s.isLt (Nat.not_lt_zero _)⟩) (Cert.DownReferenceIdeal.Value.run m ρ)

/-- Every run ends with the result the specified array of the arguments, and the arguments unchanged. -/
theorem run_values : θ_run defs (onTc (τ := τ) (main (F := Ideal))) ⟨m, fun _ => 0, ρ⟩ (fun r => ∀ c : Dev nD,
      r.2.mem ((c.tc : Thread nD τ).loc main_v2) = Cert.DownIdeal.Mlp.A5
        (fun r k => (m ((c.tc : Thread nD τ).loc main_arg0) : Vec Ideal S12288x6912 .bf16) (ix2 r k))
        (fun k j => (m ((c.tc : Thread nD τ).loc main_arg1) : Vec Ideal S6912x2560 .bf16) (ix2 k j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (term_eq _ _), (h c).2⟩) (Cert.DownReferenceIdeal.Value.run m ρ)

end Cert.DownReferenceIdeal.Mlp

end
-- ==== Proof.Dq.Value.lean ====
/- The dequantised weights: what the kernel's points write, what the reference computes, and the two programs' runs with the
   result named. Both are every code times the scale of its 128 by 128 tile. -/
module

public import proofs.«01_k».proof.Proof.Gen.Wdown.Frame
public import proofs.«01_k».proof.Proof.Gen.WdownIdeal.Value
public import proofs.«01_k».proof.Proof.Gen.WdownReferenceIdeal.Value
public import Idealize.ShloMosaic.Lib.Pointwise
public import Idealize.ShloMosaic.Lib.Pipeline.ValueKit

@[expose] public section

set_option maxRecDepth 16384

noncomputable section

namespace Cert.WdownIdeal.Dq

open Cert.WdownIdeal.Gen
open Idealize.ShloMosaic Idealize.ShloMosaic.TcCoe Idealize.ShloMosaic.Tactic
open Idealize.SL Idealize.SL.Sem
open Idealize.ShloMosaic.Pipeline (Dat)

section Generic
variable {F : FTy → Type} [FloatOps F]

/-- A tile of dequantised weights: its codes times its scale. -/
def tile (s : Elt F .f32) (w : Vec F S128x128 .fp8e4m3) : FVec F S128x128 .bf16 :=
  mulf (extf .bf16 w bitsLt_fp8e4m3_bf16) (truncf .bf16 (broadcast S128x128 s) bitsLt_bf16_f32)

/-- The entry of the table of scales that tile `n` of row block `i 0` reads. -/
def offS (i : grid0.Coords) (n : Fin 20) : Fin 2 → Nat :=
  ![(Scalar.indexCast (Scalar.addi (BitVec.ofNat 32 (i 0).val) 0#32)).toNat, n.val]

/-- The entry's row, as a number. -/
theorem offS_0 (i : grid0.Coords) (n : Fin 20) : offS i n 0 = (i 0).val := by
  have h : ∀ (k : Fin 54), (Scalar.indexCast (Scalar.addi (BitVec.ofNat 32 k.val) 0#32)).toNat = k.val := by decide +kernel
  exact h (i 0)

theorem inbS (i : grid0.Coords) (n : Fin 20) : ∀ a, offS i n a + S1x1.size a ≤ S54x20.size a := by
  have hn : (i 0).val < 54 := (i 0).isLt
  intro a
  match a with
  | ⟨0, _⟩ => show offS i n 0 + 1 ≤ 54; rw [offS_0]; omega
  | ⟨1, _⟩ => show n.val + 1 ≤ 20; omega

theorem inbW : ∀ (n : Fin 20) (a), (![0, 128 * n.val] : Fin 2 → Nat) a + S128x128.size a ≤ S128x2560.size a := by decide +kernel

/-- The scale of tile `n`, as it is loaded. -/
def sLoad (i : grid0.Coords) (ms : Memref sig .tc .smem S54x20 .f32) (hms : ms.IsWhole) (s : Vec F S54x20 .f32) (n : Fin 20) : Elt F .f32 :=
  View.readAt (Elt F) ms.view (Rect.unit (s := S54x20) (offS i n) S1x1.size (inbS i n)).toLoadRect (hms.unread s) (Shape.Idx.first (show 0 < S1x1.numel by decide))

/-- The codes of tile `n`, as they are loaded. -/
def wLoad (mw : Memref sig .tc .vmem S128x2560 .fp8e4m3) (hmw : mw.IsWhole) (w : Vec F S128x2560 .fp8e4m3) (n : Fin 20) : Vec F S128x128 .fp8e4m3 :=
  View.readAt (Elt F) mw.view (Rect.unit (s := S128x2560) ![0, 128 * n.val] S128x128.size (inbW n)).toLoadRect (hmw.unread w)

/-- The tiles of a row block, the last first. -/
def tiles : List (Fin 20) := [19, 18, 17, 16, 15, 14, 13, 12, 11, 10, 9, 8, 7, 6, 5, 4, 3, 2, 1, 0]

/-- The stores of a row block. -/
def L (i : grid0.Coords) (ms : Memref sig .tc .smem S54x20 .f32) (hms : ms.IsWhole) (mw : Memref sig .tc .vmem S128x2560 .fp8e4m3) (hmw : mw.IsWhole)
    (s : Vec F S54x20 .f32) (w : Vec F S128x2560 .fp8e4m3) : List (View.Piece (Elt F) S128x2560 .bf16) :=
  tiles.map fun n => ⟨Rect.unit ![0, 128 * n.val] S128x128.size (inbW n), tile (sLoad i ms hms s n) (wLoad mw hmw w n)⟩

theorem run_L (c : Dev nD) (i : grid0.Coords) (ms : Memref sig .tc .smem S54x20 .f32) (hms : ms.IsWhole) (mw : Memref sig .tc .vmem S128x2560 .fp8e4m3) (hmw : mw.IsWhole) (mo : Memref sig .tc .vmem S128x2560 .bf16) (hmo : mo.IsWhole)
    (s : Vec F S54x20 .f32) (w : Vec F S128x2560 .fp8e4m3) :
    (kernelRun0_A c i ms hms mw hmw mo hmo s w).1 = L i ms hms mw hmw s w := by sl_kernel_rfl

end Generic

theorem tile_at (s : EReal) (w : Vec Ideal S128x128 .fp8e4m3) (r c : Fin 128) :
    tile (F := Ideal) s w (ix2 r c) = w (ix2 r c) * s := by
  unfold tile
  pointwise

/-- The row of the table of scales that a point reads. -/
def row (i : grid0.Coords) : Fin 54 := ⟨(i 0).val, (i 0).isLt⟩

/-- Every code of a row block times the scale of its tile. -/
def blockOf (i : grid0.Coords) (s : Vec Ideal S54x20 .f32) (w : Vec Ideal S128x2560 .fp8e4m3) : Vec Ideal S128x2560 .bf16 := fun y =>
  w y * s (ix2 (row i) ⟨(y 1).val / 128, by have h1 : (y 1).val < 2560 := (y 1).isLt; omega⟩)

theorem sLoad_eq (i : grid0.Coords) (ms : Memref sig .tc .smem S54x20 .f32) (hms : ms.IsWhole) (s : Vec Ideal S54x20 .f32) (n : Fin 20) :
    sLoad i ms hms s n = s (ix2 (row i) n) := by
  unfold sLoad
  rw [View.readAt_apply, hms.read_unread]
  refine congrArg s (funext fun a => Fin.ext ?_)
  match a with
  | ⟨0, _⟩ => show offS i n 0 + 1 * 0 = (i 0).val; rw [offS_0]; omega
  | ⟨1, _⟩ => show n.val + 1 * 0 = n.val; omega

theorem wLoad_at (mw : Memref sig .tc .vmem S128x2560 .fp8e4m3) (hmw : mw.IsWhole) (w : Vec Ideal S128x2560 .fp8e4m3) (n : Fin 20) (r c : Fin 128) :
    wLoad mw hmw w n (ix2 r c) = w (ix2 r ⟨128 * n.val + c.val, by omega⟩) := by
  unfold wLoad
  rw [View.readAt_apply, hmw.read_unread]
  refine congrArg w (funext fun a => Fin.ext ?_)
  match a with
  | ⟨0, _⟩ => show 0 + 1 * r.val = r.val; omega
  | ⟨1, _⟩ => show 128 * n.val + 1 * c.val = 128 * n.val + c.val; omega

/-- What a point leaves in its block: every code times the scale of its tile. -/
theorem out_at (c : Dev nD) (i : grid0.Coords) (ms : Memref sig .tc .smem S54x20 .f32) (hms : ms.IsWhole) (mw : Memref sig .tc .vmem S128x2560 .fp8e4m3) (hmw : mw.IsWhole) (mo : Memref sig .tc .vmem S128x2560 .bf16) (hmo : mo.IsWhole)
    (s : Vec Ideal S54x20 .f32) (w : Vec Ideal S128x2560 .fp8e4m3) :
    out0_A_2 c i ms hms mw hmw mo hmo s w = blockOf i s w := by
  unfold out0_A_2
  rw [run_L]
  funext y
  refine View.read_writes_apply_of_pieces _ _ (blockOf i s w) _ (fun p hp z => ?_) y ?_
  · obtain ⟨n, -, rfl⟩ := List.mem_map.mp hp
    obtain ⟨r, l, rfl⟩ : ∃ r l : Fin 128, z = ix2 r l := ⟨z 0, z 1, eq_ix2 _⟩
    have he : (Rect.unit (s := S128x2560) ![0, 128 * n.val] S128x128.size (inbW n)).idx (ix2 r l) = ix2 r ⟨128 * n.val + l.val, by omega⟩ := by
      refine funext fun a => Fin.ext ?_
      match a with
      | ⟨0, _⟩ => show 0 + 1 * r.val = r.val; omega
      | ⟨1, _⟩ => show 128 * n.val + 1 * l.val = 128 * n.val + l.val; omega
    refine (tile_at _ _ r l).trans ?_
    rw [wLoad_at, sLoad_eq]
    refine Eq.trans ?_ (congrArg (blockOf i s w) he).symm
    unfold blockOf
    refine congrArg₂ _ rfl (congrArg s (congrArg (ix2 (row i)) (Fin.ext ?_)))
    show n.val = (128 * n.val + l.val) / 128; omega
  · have h0 : (y 0).val < 128 := (y 0).isLt
    have h1 : (y 1).val < 2560 := (y 1).isLt
    refine ⟨_, List.mem_map.mpr ⟨⟨(y 1).val / 128, by omega⟩, (show ∀ n, n ∈ tiles by decide) _, rfl⟩, ?_⟩
    rw [Rect.mem_set_unit]
    intro a
    match a with
    | ⟨0, _⟩ => show 0 ≤ (y 0).val ∧ (y 0).val < 0 + 128; omega
    | ⟨1, _⟩ => show 128 * ((y 1).val / 128) ≤ (y 1).val ∧ (y 1).val < 128 * ((y 1).val / 128) + 128; omega

/-- The specified result: every code times the scale of its tile. -/
def A2 (w : Vec Ideal S6912x2560 .fp8e4m3) (s : Vec Ideal S54x20 .f32) : Vec Ideal S6912x2560 .bf16 := fun y =>
  w y * s (ix2 ⟨(y 0).val / 128, by have h0 : (y 0).val < 6912 := (y 0).isLt; omega⟩ ⟨(y 1).val / 128, by have h1 : (y 1).val < 2560 := (y 1).isLt; omega⟩)

variable (m : (ℓ : Loc nD τ sig) → Buf (Elt Ideal) ℓ) (ρ : Dev nD → PrngReg)

theorem idx_0 : ∀ t : Fin cfg0.N, win0_0.index t = ![0, 0] :=
  (by decide +kernel : ∀ t : Fin grid0.N, win0_0.index t = ![0, 0])
theorem idx_1 : ∀ t : Fin cfg0.N, win0_1.index t = ![t.val, 0] :=
  (by decide +kernel : ∀ t : Fin grid0.N, win0_1.index t = ![t.val, 0])
theorem idx_2 : ∀ t : Fin cfg0.N, win0_2.index t = ![t.val, 0] :=
  (by decide +kernel : ∀ t : Fin grid0.N, win0_2.index t = ![t.val, 0])
theorem coord_0 : ∀ t : Fin cfg0.N, (grid0.coords t 0).val = t.val :=
  (by decide +kernel : ∀ t : Fin grid0.N, (grid0.coords t 0).val = t.val)

/-- The number of points. -/
theorem lt_N (t : Fin cfg0.N) : t.val < 54 := Nat.lt_of_lt_of_eq t.isLt (by decide +kernel)

/-- The codes and the scales as core `c`'s memory holds them. -/
def argW (c : Dev nD) : Vec Ideal S6912x2560 .fp8e4m3 := m ((c : Thread nD τ).loc main_arg0)
def argS (c : Dev nD) : Vec Ideal S54x20 .f32 := m ((c : Thread nD τ).loc main_arg1)

theorem iblk0_at (c : Dev nD) (t : Fin cfg0.N) (a : Fin 54) (b : Fin 20) :
    (iblk m c 0 t : Vec Ideal S54x20 .f32) (ix2 a b) = argS m c (ix2 a b) := by
  unfold argS
  blk_ext [iblk, V, idx_0]
theorem iblk1_at (c : Dev nD) (t : Fin cfg0.N) (r : Fin 128) (k : Fin 2560) :
    (iblk m c 1 t : Vec Ideal S128x2560 .fp8e4m3) (ix2 r k) = argW m c (ix2 ⟨128 * t.val + r.val, by have h := lt_N t; omega⟩ k) := by
  unfold argW
  blk_ext [iblk, V, idx_1]

/-- The block of the specified result that point `t` leaves. -/
def G2 (c : Dev nD) (t : Fin cfg0.N) : Vec Ideal S128x2560 .bf16 := fun y =>
  A2 (argW m c) (argS m c) (ix2 ⟨128 * t.val + (y 0).val, by have h := lt_N t; have h0 : (y 0).val < 128 := (y 0).isLt; omega⟩ (y 1))

theorem outs_eq (c : Dev nD) (t : Fin cfg0.N) : outsAt0 m c t = G2 m c t := by
  funext y
  obtain ⟨r, k, rfl⟩ : ∃ (r : Fin 128) (k : Fin 2560), y = ix2 r k := ⟨y 0, y 1, eq_ix2 _⟩
  unfold outsAt0
  rw [out_at]
  unfold blockOf
  rw [iblk1_at, iblk0_at]
  unfold G2 A2
  refine congrArg₂ _ rfl (congrArg (argS m c) (congrArg₂ _ (Fin.ext ?_) rfl))
  show (grid0.coords t 0).val = (128 * t.val + r.val) / 128
  rw [coord_0]; omega

theorem arr_2 (c : Dev nD) : (dats m 0 c).arrAt 2 cfg0.N = A2 (argW m c) (argS m c) := by
  refine (dats m 0 c).arrAt_eq_of_covers 2 (A2 (argW m c) (argS m c)) (by decide +kernel) fun t hf y => ?_
  blk_simp
  rw [after0_2, outs_eq]
  unfold G2
  idx_bounds y
  refine congrArg (A2 (argW m c) (argS m c)) (funext fun a => Fin.ext ?_)
  match a with
  | ⟨0, _⟩ => blk_simp [idx_2]; show 128 * t.val + (y 0).val = t.val * 128 + (y 0).val; omega
  | ⟨1, _⟩ => blk_simp [idx_2]; rfl

/-- Every run ends with the result the specified array of the arguments, and the arguments unchanged. -/
theorem run_values : θ_run defs (onTc (τ := τ) (main (F := Ideal))) ⟨m, fun _ => 0, ρ⟩ (fun r => ∀ c : Dev nD,
      r.2.mem ((c.tc : Thread nD τ).loc main_v0) = A2 (argW m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr_2 m c), (h c).2⟩) (Cert.WdownIdeal.Value.run_blocks m ρ)

end Cert.WdownIdeal.Dq

namespace Cert.WdownReferenceIdeal.Dq

open Cert.WdownReferenceIdeal.Gen
open Idealize.ShloMosaic Idealize.ShloMosaic.TcCoe Idealize.ShloMosaic.Tactic
open Idealize.SL Idealize.SL.Sem

theorem pay_at (w : Vec Ideal S6912x2560 .fp8e4m3) (s : Vec Ideal S54x20 .f32) (r : Fin 6912) (k : Fin 2560) :
    k0_pay1 w s (ix2 r k) = w (ix2 r k) * s (ix2 ⟨r.val / 128, by omega⟩ ⟨k.val / 128, by omega⟩) := by
  unfold k0_pay1
  pointwise

/-- The reference's term is the specified array. -/
theorem term_eq (w : Vec Ideal S6912x2560 .fp8e4m3) (s : Vec Ideal S54x20 .f32) :
    Cert.WdownReferenceIdeal.Value.G2 w s = Cert.WdownIdeal.Dq.A2 w s := by
  funext y
  obtain ⟨r, k, rfl⟩ : ∃ (r : Fin 6912) (k : Fin 2560), y = ix2 r k := ⟨y 0, y 1, eq_ix2 _⟩
  exact pay_at w s r k

variable (m : (ℓ : Loc nD τ sig) → Buf (Elt Ideal) ℓ) (ρ : Dev nD → PrngReg)

/-- Every run ends with the result the specified array of the arguments, and the arguments unchanged. -/
theorem run_values : θ_run defs (onTc (τ := τ) (main (F := Ideal))) ⟨m, fun _ => 0, ρ⟩ (fun r => ∀ c : Dev nD,
      r.2.mem ((c.tc : Thread nD τ).loc main_v0) = Cert.WdownIdeal.Dq.A2 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (term_eq _ _), (h c).2⟩) (Cert.WdownReferenceIdeal.Value.run m ρ)

end Cert.WdownReferenceIdeal.Dq

end
-- ==== Proof.lean ====
module

public import proofs.«01_k».proof.Defs
public import proofs.«01_k».proof.Proof.Up.FrameRun
public import proofs.«01_k».proof.Proof.Up.Runs
public import proofs.«01_k».proof.Proof.MlpF.Frame
public import proofs.«01_k».proof.Proof.Mlp.Runs
public import proofs.«01_k».proof.Proof.Dq.Value

@[expose] public section

namespace Cert.Proof

open Idealize.ShloMosaic Idealize.SL.Sem

/-- From memories that agree on the arguments the kernel and the reference end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Up.A5 (Cert.KernelIdeal.Up.argHid m c), fun c => Cert.KernelIdeal.Up.A6 (Cert.KernelIdeal.Up.argHid m c),
    fun c => Cert.KernelIdeal.Up.A7 (Cert.KernelIdeal.Up.argHid m c), fun c => Cert.KernelIdeal.Up.A8 (Cert.KernelIdeal.Up.argHid m c),
    fun c => Cert.KernelIdeal.Up.A9 (Cert.KernelIdeal.Up.argHid m c), Cert.KernelIdeal.Up.run_values m g, ?_⟩
  have e : ∀ c, Cert.ReferenceIdeal.Up.argHid m' c = Cert.KernelIdeal.Up.argHid m c := by
    intro c
    obtain ⟨h0, h1, h2, h3, h4⟩ := hagree c
    unfold Cert.ReferenceIdeal.Up.argHid
    rw [h0, h1, h2, h3, h4]
    rfl
  refine (θ_run Cert.ReferenceIdeal.defs _ _).mono (fun r h c => ?_) (Cert.ReferenceIdeal.Up.run_values m' g')
  have hc := h c
  rw [e c] at hc
  exact hc

/-- From memories that agree on the codes and the scales the kernel and the reference end with equal dequantised weights. -/
theorem algebraic_wdown : Cert.algebraic_WdownIdeal_WdownReferenceIdeal (hWdownIdeal := Cert.WdownIdeal.Gen.facts)
    (hWdownReferenceIdeal := Cert.WdownReferenceIdeal.Gen.facts) := by
  intro m g m' g' _ hagree
  refine ⟨fun c => Cert.WdownIdeal.Dq.A2 (Cert.WdownIdeal.Dq.argW m c) (Cert.WdownIdeal.Dq.argS m c), Cert.WdownIdeal.Dq.run_values m g, ?_⟩
  refine (θ_run Cert.WdownReferenceIdeal.defs _ _).mono (fun r h c => ?_) (Cert.WdownReferenceIdeal.Dq.run_values m' g')
  obtain ⟨h0, h1⟩ := hagree c
  refine ⟨(h c).1.trans ?_, (h c).2⟩
  rw [h0, h1]
  rfl

/-- From memories that agree on the arguments the kernel and the reference end with equal products. -/
theorem algebraic_down : Cert.algebraic_DownIdeal_DownReferenceIdeal (hDownIdeal := Cert.DownIdeal.Gen.facts)
    (hDownReferenceIdeal := Cert.DownReferenceIdeal.Gen.facts) := by
  intro m g m' g' _ hagree
  refine ⟨fun c => Cert.DownIdeal.Mlp.A5 (Cert.DownIdeal.Mlp.argA m c) (Cert.DownIdeal.Mlp.argW m c), Cert.DownIdeal.Mlp.run_values m g, ?_⟩
  refine (θ_run Cert.DownReferenceIdeal.defs _ _).mono (fun r h c => ?_) (Cert.DownReferenceIdeal.Mlp.run_values m' g')
  obtain ⟨h0, h1, -, -, -⟩ := hagree c
  refine ⟨(h c).1.trans ?_, (h c).2⟩
  rw [h0, h1]
  rfl

theorem claim : Cert.Claim :=
  ⟨Cert.Kernel.Gen.facts, Cert.KernelIdeal.Gen.facts, Cert.ReferenceIdeal.Gen.facts,
    Cert.Wdown.Gen.facts, Cert.WdownIdeal.Gen.facts, Cert.WdownReferenceIdeal.Gen.facts,
    Cert.Down.Gen.facts, Cert.DownIdeal.Gen.facts, Cert.DownReferenceIdeal.Gen.facts,
    fun m g _ => Cert.Kernel.Up.frame m g, fun m g _ => Cert.KernelIdeal.Up.frame m g, fun m g _ => Cert.ReferenceIdeal.Gen.frame m g,
    fun m g _ => Cert.Wdown.Gen.frame m g, fun m g _ => Cert.WdownIdeal.Gen.frame m g, fun m g _ => Cert.WdownReferenceIdeal.Gen.frame m g,
    fun m g _ => Cert.Down.Mlp.frame m g, fun m g _ => Cert.DownIdeal.Mlp.frame m g, fun m g _ => Cert.DownReferenceIdeal.Mlp.frame m g,
    trivial, algebraic, trivial, algebraic_wdown, trivial, algebraic_down⟩

end Cert.Proof
